-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_ordered [hPre_slots_ordered : Cert.Pre_slots_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_ordered [hPre_slots_ordered : Cert.Pre_slots_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_slots_ordered [hKernelIdeal : Cert.KernelIdeal.Facts] [hPre_slots_ordered : Cert.Pre_slots_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_slots_ordered [hReferenceIdeal : Cert.ReferenceIdeal.Facts] [hPre_slots_ordered : Cert.Pre_slots_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S20x2x1024 Cert.KernelIdeal.S20x1x1024
  ∧ IdealRules.bf16_pair.Statement Cert.KernelIdeal.S40x1024 Cert.KernelIdeal.S20x1024
  ∧ IdealRules.bf16_pair.Statement Cert.KernelIdeal.S20x2x1024 Cert.KernelIdeal.S20x1x1024
  ∧ IdealRules.bf16_pair.Statement Cert.KernelIdeal.S1x2x256 Cert.KernelIdeal.S1x1x256
  ∧ IdealRules.bf16_pair.Statement Cert.KernelIdeal.S32x256 Cert.KernelIdeal.S16x256

def algebraic_KernelIdeal_ReferenceIdeal_pre_slots_ordered [hKernelIdeal : Cert.KernelIdeal.Facts] [hReferenceIdeal : Cert.ReferenceIdeal.Facts] [hPre_slots_ordered : Cert.Pre_slots_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_slots_ordered : Cert.Pre_slots_ordered.Facts),
    quiescent_Kernel (hKernel := hKernel)
    ∧ quiescent_KernelIdeal (hKernelIdeal := hKernelIdeal)
    ∧ quiescent_KernelIdeal_pre_slots_ordered (hKernelIdeal := hKernelIdeal) (hPre_slots_ordered := hPre_slots_ordered)
    ∧ quiescent_ReferenceIdeal (hReferenceIdeal := hReferenceIdeal)
    ∧ quiescent_ReferenceIdeal_pre_slots_ordered (hReferenceIdeal := hReferenceIdeal) (hPre_slots_ordered := hPre_slots_ordered)
    ∧ preserves_Kernel_KernelIdeal
    ∧ algebraic_KernelIdeal_ReferenceIdeal_pre_slots_ordered (hKernelIdeal := hKernelIdeal) (hReferenceIdeal := hReferenceIdeal) (hPre_slots_ordered := hPre_slots_ordered)
-- ==== Pre_slots_ordered.lean ====
abbrev S2x1x5120 : Shape := ⟨3, ![2, 1, 5120]⟩
abbrev S1280x27648 : Shape := ⟨2, ![1280, 27648]⟩
abbrev S640x27648 : Shape := ⟨2, ![640, 27648]⟩
abbrev S40x27648 : Shape := ⟨2, ![40, 27648]⟩
abbrev S_ : Shape := ⟨0, ![]⟩

class Facts : Prop where
  natLt_8_32 : 8 < 32
  bcast_S_S640x27648 : S_.BroadcastsInDim S640x27648 (![] : Fin 0 → Fin S640x27648.rank)

variable [Facts]

def fn_part1 {F : FTy → Type} [FloatOps F] (main_v7 : IVec S640x27648 1) (main_v16 : IVec S640x27648 1) : IVec S640x27648 1 :=
  let main_v17 : IVec S640x27648 1 := andi main_v7 main_v16
  main_v17

def fn {F : FTy → Type} [FloatOps F] (main_arg0 : FVec F S2x1x5120 .bf16) (main_arg1 : IVec S1280x27648 8) (main_arg2 : IVec S640x27648 8) (main_arg3 : FVec F S40x27648 .bf16) : IVec S640x27648 1 :=
  let main_v0 : IVec S640x27648 32 := (extui 32 · natLt_8_32) main_arg2
  let main_c : IVec S_ 32 := constantI S_ 32 3#32
  let main_v1 : IVec S640x27648 32 := broadcastInDim S640x27648 ![] bcast_S_S640x27648 main_c
  let main_v2 : IVec S640x27648 32 := andi main_v0 main_v1
  let main_c_0 : IVec S_ 32 := constantI S_ 32 2#32
  let main_v3 : IVec S640x27648 32 := broadcastInDim S640x27648 ![] bcast_S_S640x27648 main_c_0
  let main_v4 : IVec S640x27648 32 := Host.shrsi main_v0 main_v3
  let main_c_1 : IVec S_ 32 := constantI S_ 32 3#32
  let main_v5 : IVec S640x27648 32 := broadcastInDim S640x27648 ![] bcast_S_S640x27648 main_c_1
  let main_v6 : IVec S640x27648 32 := andi main_v4 main_v5
  let main_v7 : IVec S640x27648 1 := cmpi .slt main_v2 main_v6
  let main_c_2 : IVec S_ 32 := constantI S_ 32 4#32
  let main_v8 : IVec S640x27648 32 := broadcastInDim S640x27648 ![] bcast_S_S640x27648 main_c_2
  let main_v9 : IVec S640x27648 32 := Host.shrsi main_v0 main_v8
  let main_c_3 : IVec S_ 32 := constantI S_ 32 3#32
  let main_v10 : IVec S640x27648 32 := broadcastInDim S640x27648 ![] bcast_S_S640x27648 main_c_3
  let main_v11 : IVec S640x27648 32 := andi main_v9 main_v10
  let main_c_4 : IVec S_ 32 := constantI S_ 32 6#32
  let main_v12 : IVec S640x27648 32 := broadcastInDim S640x27648 ![] bcast_S_S640x27648 main_c_4
  let main_v13 : IVec S640x27648 32 := Host.shrsi main_v0 main_v12
  let main_c_5 : IVec S_ 32 := constantI S_ 32 3#32
  let main_v14 : IVec S640x27648 32 := broadcastInDim S640x27648 ![] bcast_S_S640x27648 main_c_5
  let main_v15 : IVec S640x27648 32 := andi main_v13 main_v14
  let main_v16 : IVec S640x27648 1 := cmpi .slt main_v11 main_v15
  fn_part1 (F := F) main_v7 main_v16
-- ==== Kernel.lean ====
abbrev S2x1x5120 : Shape := ⟨3, ![2, 1, 5120]⟩
abbrev S1280x27648 : Shape := ⟨2, ![1280, 27648]⟩
abbrev S640x27648 : Shape := ⟨2, ![640, 27648]⟩
abbrev S40x27648 : Shape := ⟨2, ![40, 27648]⟩
abbrev S2x20x64x4 : Shape := ⟨4, ![2, 20, 64, 4]⟩
abbrev S2x20x4x64 : Shape := ⟨4, ![2, 20, 4, 64]⟩
abbrev S2x5120 : Shape := ⟨2, ![2, 5120]⟩
abbrev S_ : Shape := ⟨0, ![]⟩
abbrev S16x5120 : Shape := ⟨2, ![16, 5120]⟩
abbrev S2x27648 : Shape := ⟨2, ![2, 27648]⟩
abbrev S1280x1024 : Shape := ⟨2, ![1280, 1024]⟩
abbrev S640x1024 : Shape := ⟨2, ![640, 1024]⟩
abbrev S40x1024 : Shape := ⟨2, ![40, 1024]⟩
abbrev S2x1024 : Shape := ⟨2, ![2, 1024]⟩
abbrev S20x1024 : Shape := ⟨2, ![20, 1024]⟩
abbrev S8x8x256 : Shape := ⟨3, ![8, 8, 256]⟩
abbrev S16x256 : Shape := ⟨2, ![16, 256]⟩
abbrev S64x256 : Shape := ⟨2, ![64, 256]⟩
abbrev S32x256 : Shape := ⟨2, ![32, 256]⟩
abbrev S1x256 : Shape := ⟨2, ![1, 256]⟩
abbrev S8x256 : Shape := ⟨2, ![8, 256]⟩
abbrev S8x1x256 : Shape := ⟨3, ![8, 1, 256]⟩
abbrev S256x256 : Shape := ⟨2, ![256, 256]⟩
abbrev S2x256 : Shape := ⟨2, ![2, 256]⟩

abbrev nBuf : Space → Nat
  | .hbm => 11
  | .vmem => 11
  | .smem => 0
  | _ => 0

abbrev bufTy : (tb : Table) → Fin (tcTables nBuf tb) → BufTy
  | .hbm, ⟨0, _⟩ => ⟨S2x1x5120, .bf16⟩
  | .hbm, ⟨1, _⟩ => ⟨S1280x27648, .i8⟩
  | .hbm, ⟨2, _⟩ => ⟨S640x27648, .i8⟩
  | .hbm, ⟨3, _⟩ => ⟨S40x27648, .bf16⟩
  | .hbm, ⟨4, _⟩ => ⟨S2x20x64x4, .bf16⟩
  | .hbm, ⟨5, _⟩ => ⟨S2x20x4x64, .bf16⟩
  | .hbm, ⟨6, _⟩ => ⟨S2x5120, .bf16⟩
  | .hbm, ⟨7, _⟩ => ⟨S_, .i32⟩
  | .hbm, ⟨8, _⟩ => ⟨S_, .bf16⟩
  | .hbm, ⟨9, _⟩ => ⟨S16x5120, .bf16⟩
  | .hbm, ⟨10, _⟩ => ⟨S2x27648, .bf16⟩
  | .local _ .vmem, ⟨0, _⟩ => ⟨S16x5120, .bf16⟩
  | .local _ .vmem, ⟨1, _⟩ => ⟨S1280x1024, .i8⟩
  | .local _ .vmem, ⟨2, _⟩ => ⟨S1280x1024, .i8⟩
  | .local _ .vmem, ⟨3, _⟩ => ⟨S640x1024, .i8⟩
  | .local _ .vmem, ⟨4, _⟩ => ⟨S640x1024, .i8⟩
  | .local _ .vmem, ⟨5, _⟩ => ⟨S40x1024, .bf16⟩
  | .local _ .vmem, ⟨6, _⟩ => ⟨S40x1024, .bf16⟩
  | .local _ .vmem, ⟨7, _⟩ => ⟨S2x1024, .bf16⟩
  | .local _ .vmem, ⟨8, _⟩ => ⟨S2x1024, .bf16⟩
  | .local _ .vmem, ⟨9, _⟩ => ⟨S20x1024, .i32⟩
  | .local _ .vmem, ⟨10, _⟩ => ⟨S20x1024, .i32⟩
  | _, _ => ⟨S2x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S20x2x1024 : Shape := ⟨3, ![20, 2, 1024]⟩
abbrev S20x1x1024 : Shape := ⟨3, ![20, 1, 1024]⟩
abbrev S1x2x256 : Shape := ⟨3, ![1, 2, 256]⟩
abbrev S1x1x256 : Shape := ⟨3, ![1, 1, 256]⟩
  | .local _ .vmem, ⟨9, _⟩ => ⟨S20x2x1024, .bf16⟩
  | .local _ .vmem, ⟨10, _⟩ => ⟨S20x2x1024, .bf16⟩
variable {F : FTy → Type} [FloatOps F]
-- ==== ReferenceIdeal.lean ====
abbrev S2x1x5120 : Shape := ⟨3, ![2, 1, 5120]⟩
abbrev S1280x27648 : Shape := ⟨2, ![1280, 27648]⟩
abbrev S640x27648 : Shape := ⟨2, ![640, 27648]⟩
abbrev S40x27648 : Shape := ⟨2, ![40, 27648]⟩
abbrev S640x2x27648 : Shape := ⟨3, ![640, 2, 27648]⟩
abbrev S_ : Shape := ⟨0, ![]⟩
abbrev S40x16x27648 : Shape := ⟨3, ![40, 16, 27648]⟩
abbrev S640x1x27648 : Shape := ⟨3, ![640, 1, 27648]⟩
abbrev S2x1x640x2x4 : Shape := ⟨5, ![2, 1, 640, 2, 4]⟩
abbrev S2x1x640x1x1 : Shape := ⟨5, ![2, 1, 640, 1, 1]⟩
abbrev S2x1x640 : Shape := ⟨3, ![2, 1, 640]⟩
abbrev S2x1x27648 : Shape := ⟨3, ![2, 1, 27648]⟩
abbrev S2x27648 : Shape := ⟨2, ![2, 27648]⟩

abbrev nBuf : Space → Nat
  | .hbm => 178
  | .vmem => 0
  | .smem => 0
  | _ => 0

abbrev hbmTy0_0 (i : Nat) : BufTy := match i % 128 with
  | 0 => ⟨S2x1x5120, .bf16⟩
  | 1 => ⟨S1280x27648, .i8⟩
  | 2 => ⟨S640x27648, .i8⟩
  | 3 => ⟨S40x27648, .bf16⟩
  | 4 => ⟨S1280x27648, .i32⟩
  | 5 => ⟨S640x2x27648, .i32⟩
  | 6 => ⟨S640x27648, .i32⟩
  | 7 => ⟨S_, .i32⟩
  | 8 => ⟨S640x2x27648, .i32⟩
  | 9 => ⟨S640x2x27648, .i32⟩
  | 10 => ⟨S_, .i32⟩
  | 11 => ⟨S640x2x27648, .i32⟩
  | 12 => ⟨S640x2x27648, .i32⟩
  | 13 => ⟨S_, .i32⟩
  | 14 => ⟨S640x2x27648, .i32⟩
  | 15 => ⟨S640x2x27648, .i32⟩
  | 16 => ⟨S40x16x27648, .bf16⟩
  | 17 => ⟨S640x27648, .bf16⟩
  | 18 => ⟨S640x2x27648, .bf16⟩
  | 19 => ⟨S_, .bf16⟩
  | 20 => ⟨S640x2x27648, .bf16⟩
  | 21 => ⟨S640x2x27648, .bf16⟩
  | 22 => ⟨S640x1x27648, .bf16⟩
  | 23 => ⟨S640x2x27648, .bf16⟩
  | 24 => ⟨S640x2x27648, .bf16⟩
  | 25 => ⟨S640x2x27648, .bf16⟩
  | 26 => ⟨S_, .bf16⟩
  | 27 => ⟨S640x2x27648, .bf16⟩
  | 28 => ⟨S640x2x27648, .bf16⟩
  | 29 => ⟨S640x1x27648, .bf16⟩
  | 30 => ⟨S640x2x27648, .bf16⟩
  | 31 => ⟨S640x2x27648, .bf16⟩
  | 32 => ⟨S2x1x640x2x4, .bf16⟩
  | 33 => ⟨S_, .i32⟩
  | 34 => ⟨S640x27648, .i32⟩
  | 35 => ⟨S640x27648, .i32⟩
  | 36 => ⟨S_, .i32⟩
  | 37 => ⟨S640x27648, .i32⟩
  | 38 => ⟨S640x27648, .i32⟩
  | 39 => ⟨S_, .i32⟩
  | 40 => ⟨S640x27648, .i32⟩
  | 41 => ⟨S640x27648, .i32⟩
  | 42 => ⟨S_, .i32⟩
  | 43 => ⟨S640x27648, .i32⟩
  | 44 => ⟨S640x27648, .i32⟩
  | 45 => ⟨S640x1x27648, .bf16⟩
  | 46 => ⟨S640x27648, .bf16⟩
  | 47 => ⟨S640x1x27648, .bf16⟩
  | 48 => ⟨S640x27648, .bf16⟩
  | 49 => ⟨S_, .i32⟩
  | 50 => ⟨S640x27648, .i32⟩
  | 51 => ⟨S640x27648, .i1⟩
  | 52 => ⟨S_, .i32⟩
  | 53 => ⟨S640x27648, .i32⟩
  | 54 => ⟨S640x27648, .i1⟩
  | 55 => ⟨S_, .bf16⟩
  | 56 => ⟨S640x27648, .bf16⟩
  | 57 => ⟨S640x27648, .bf16⟩
  | 58 => ⟨S640x27648, .bf16⟩
  | 59 => ⟨S2x1x640x1x1, .bf16⟩
  | 60 => ⟨S2x1x640, .bf16⟩
  | 61 => ⟨S2x1x27648, .f32⟩
  | 62 => ⟨S_, .i32⟩
  | 63 => ⟨S640x27648, .i32⟩
  | 64 => ⟨S640x27648, .i1⟩
  | 65 => ⟨S_, .i32⟩
  | 66 => ⟨S640x27648, .i32⟩
  | 67 => ⟨S640x27648, .i1⟩
  | 68 => ⟨S_, .bf16⟩
  | 69 => ⟨S640x27648, .bf16⟩
  | 70 => ⟨S640x27648, .bf16⟩
  | 71 => ⟨S640x27648, .bf16⟩
  | 72 => ⟨S2x1x640x1x1, .bf16⟩
  | 73 => ⟨S2x1x640, .bf16⟩
  | 74 => ⟨S2x1x27648, .f32⟩
  | 75 => ⟨S2x1x27648, .f32⟩
  | 76 => ⟨S_, .i32⟩
  | 77 => ⟨S640x27648, .i32⟩
  | 78 => ⟨S640x27648, .i1⟩
  | 79 => ⟨S_, .i32⟩
  | 80 => ⟨S640x27648, .i32⟩
  | 81 => ⟨S640x27648, .i1⟩
  | 82 => ⟨S_, .bf16⟩
  | 83 => ⟨S640x27648, .bf16⟩
  | 84 => ⟨S640x27648, .bf16⟩
  | 85 => ⟨S640x27648, .bf16⟩
  | 86 => ⟨S2x1x640x1x1, .bf16⟩
  | 87 => ⟨S2x1x640, .bf16⟩
  | 88 => ⟨S2x1x27648, .f32⟩
  | 89 => ⟨S2x1x27648, .f32⟩
  | 90 => ⟨S_, .i32⟩
  | 91 => ⟨S640x27648, .i32⟩
  | 92 => ⟨S640x27648, .i1⟩
  | 93 => ⟨S_, .i32⟩
  | 94 => ⟨S640x27648, .i32⟩
  | 95 => ⟨S640x27648, .i1⟩
  | 96 => ⟨S_, .bf16⟩
  | 97 => ⟨S640x27648, .bf16⟩
  | 98 => ⟨S640x27648, .bf16⟩
  | 99 => ⟨S640x27648, .bf16⟩
  | 100 => ⟨S2x1x640x1x1, .bf16⟩
  | 101 => ⟨S2x1x640, .bf16⟩
  | 102 => ⟨S2x1x27648, .f32⟩
  | 103 => ⟨S2x1x27648, .f32⟩
  | 104 => ⟨S_, .i32⟩
  | 105 => ⟨S640x27648, .i32⟩
  | 106 => ⟨S640x27648, .i32⟩
  | 107 => ⟨S_, .i32⟩
  | 108 => ⟨S640x27648, .i32⟩
  | 109 => ⟨S640x27648, .i32⟩
  | 110 => ⟨S_, .i32⟩
  | 111 => ⟨S640x27648, .i32⟩
  | 112 => ⟨S640x27648, .i32⟩
  | 113 => ⟨S_, .i32⟩
  | 114 => ⟨S640x27648, .i32⟩
  | 115 => ⟨S640x27648, .i32⟩
  | 116 => ⟨S640x1x27648, .bf16⟩
  | 117 => ⟨S640x27648, .bf16⟩
  | 118 => ⟨S640x1x27648, .bf16⟩
  | 119 => ⟨S640x27648, .bf16⟩
  | 120 => ⟨S_, .i32⟩
  | 121 => ⟨S640x27648, .i32⟩
  | 122 => ⟨S640x27648, .i1⟩
  | 123 => ⟨S_, .i32⟩
  | 124 => ⟨S640x27648, .i32⟩
  | 125 => ⟨S640x27648, .i1⟩
  | 126 => ⟨S_, .bf16⟩
  | 127 => ⟨S640x27648, .bf16⟩
  | _ => ⟨S2x1x5120, .bf16⟩

abbrev hbmTy0_1 (i : Nat) : BufTy := match i % 128 with
  | 0 => ⟨S640x27648, .bf16⟩
  | 1 => ⟨S640x27648, .bf16⟩
  | 2 => ⟨S2x1x640x1x1, .bf16⟩
  | 3 => ⟨S2x1x640, .bf16⟩
  | 4 => ⟨S2x1x27648, .f32⟩
  | 5 => ⟨S2x1x27648, .f32⟩
  | 6 => ⟨S_, .i32⟩
  | 7 => ⟨S640x27648, .i32⟩
  | 8 => ⟨S640x27648, .i1⟩
  | 9 => ⟨S_, .i32⟩
  | 10 => ⟨S640x27648, .i32⟩
  | 11 => ⟨S640x27648, .i1⟩
  | 12 => ⟨S_, .bf16⟩
  | 13 => ⟨S640x27648, .bf16⟩
  | 14 => ⟨S640x27648, .bf16⟩
  | 15 => ⟨S640x27648, .bf16⟩
  | 16 => ⟨S2x1x640x1x1, .bf16⟩
  | 17 => ⟨S2x1x640, .bf16⟩
  | 18 => ⟨S2x1x27648, .f32⟩
  | 19 => ⟨S2x1x27648, .f32⟩
  | 20 => ⟨S_, .i32⟩
  | 21 => ⟨S640x27648, .i32⟩
  | 22 => ⟨S640x27648, .i1⟩
  | 23 => ⟨S_, .i32⟩
  | 24 => ⟨S640x27648, .i32⟩
  | 25 => ⟨S640x27648, .i1⟩
  | 26 => ⟨S_, .bf16⟩
  | 27 => ⟨S640x27648, .bf16⟩
  | 28 => ⟨S640x27648, .bf16⟩
  | 29 => ⟨S640x27648, .bf16⟩
  | 30 => ⟨S2x1x640x1x1, .bf16⟩
  | 31 => ⟨S2x1x640, .bf16⟩
  | 32 => ⟨S2x1x27648, .f32⟩
  | 33 => ⟨S2x1x27648, .f32⟩
  | 34 => ⟨S_, .i32⟩
  | 35 => ⟨S640x27648, .i32⟩
  | 36 => ⟨S640x27648, .i1⟩
  | 37 => ⟨S_, .i32⟩
  | 38 => ⟨S640x27648, .i32⟩
  | 39 => ⟨S640x27648, .i1⟩
  | 40 => ⟨S_, .bf16⟩
  | 41 => ⟨S640x27648, .bf16⟩
  | 42 => ⟨S640x27648, .bf16⟩
  | 43 => ⟨S640x27648, .bf16⟩
  | 44 => ⟨S2x1x640x1x1, .bf16⟩
  | 45 => ⟨S2x1x640, .bf16⟩
  | 46 => ⟨S2x1x27648, .f32⟩
  | 47 => ⟨S2x1x27648, .f32⟩
  | 48 => ⟨S2x1x27648, .bf16⟩
  | 49 => ⟨S2x27648, .bf16⟩
  | _ => ⟨S2x1x5120, .bf16⟩

abbrev hbmTy (i : Nat) : BufTy := match i / 128 with
  | 0 => hbmTy0_0 i
  | 1 => hbmTy0_1 i
  | _ => ⟨S2x1x5120, .bf16⟩

abbrev bufTy : (tb : Table) → Fin (tcTables nBuf tb) → BufTy
  | .hbm, ⟨i, _⟩ => hbmTy i
  | _, _ => ⟨S2x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_call2_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_call4_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_call6_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_19 : Ref sig .tc := ⟨.hbm, 104, rfl⟩
abbrev main_v75 : Ref sig .tc := ⟨.hbm, 105, rfl⟩
abbrev main_v76 : Ref sig .tc := ⟨.hbm, 106, rfl⟩
abbrev main_c_20 : Ref sig .tc := ⟨.hbm, 107, rfl⟩
abbrev main_v77 : Ref sig .tc := ⟨.hbm, 108, rfl⟩
abbrev main_v78 : Ref sig .tc := ⟨.hbm, 109, rfl⟩
abbrev main_c_21 : Ref sig .tc := ⟨.hbm, 110, rfl⟩
abbrev main_v79 : Ref sig .tc := ⟨.hbm, 111, rfl⟩
abbrev main_v80 : Ref sig .tc := ⟨.hbm, 112, rfl⟩
abbrev main_c_22 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_23 : Ref sig .tc := ⟨.hbm, 120, rfl⟩
abbrev main_v87 : Ref sig .tc := ⟨.hbm, 121, rfl⟩
abbrev main_v88 : Ref sig .tc := ⟨.hbm, 122, rfl⟩
abbrev main_c_24 : Ref sig .tc := ⟨.hbm, 123, rfl⟩
abbrev main_v89 : Ref sig .tc := ⟨.hbm, 124, rfl⟩
abbrev main_v90 : Ref sig .tc := ⟨.hbm, 125, rfl⟩
abbrev main_cst_25 : Ref sig .tc := ⟨.hbm, 126, rfl⟩
abbrev main_call8_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_26 : Ref sig .tc := ⟨.hbm, 134, rfl⟩
abbrev main_v97 : Ref sig .tc := ⟨.hbm, 135, rfl⟩
abbrev main_v98 : Ref sig .tc := ⟨.hbm, 136, rfl⟩
abbrev main_c_27 : Ref sig .tc := ⟨.hbm, 137, rfl⟩
abbrev main_v99 : Ref sig .tc := ⟨.hbm, 138, rfl⟩
abbrev main_v100 : Ref sig .tc := ⟨.hbm, 139, rfl⟩
abbrev main_cst_28 : Ref sig .tc := ⟨.hbm, 140, rfl⟩
abbrev main_call10_v0 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_29 : Ref sig .tc := ⟨.hbm, 148, rfl⟩
abbrev main_v107 : Ref sig .tc := ⟨.hbm, 149, rfl⟩
abbrev main_v108 : Ref sig .tc := ⟨.hbm, 150, rfl⟩
abbrev main_c_30 : Ref sig .tc := ⟨.hbm, 151, rfl⟩
abbrev main_v109 : Ref sig .tc := ⟨.hbm, 152, rfl⟩
abbrev main_v110 : Ref sig .tc := ⟨.hbm, 153, rfl⟩
abbrev main_cst_31 : Ref sig .tc := ⟨.hbm, 154, rfl⟩
abbrev main_call12_v0 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_32 : Ref sig .tc := ⟨.hbm, 162, rfl⟩
abbrev main_v117 : Ref sig .tc := ⟨.hbm, 163, rfl⟩
abbrev main_v118 : Ref sig .tc := ⟨.hbm, 164, rfl⟩
abbrev main_c_33 : Ref sig .tc := ⟨.hbm, 165, rfl⟩
abbrev main_v119 : Ref sig .tc := ⟨.hbm, 166, rfl⟩
abbrev main_v120 : Ref sig .tc := ⟨.hbm, 167, rfl⟩
abbrev main_cst_34 : Ref sig .tc := ⟨.hbm, 168, rfl⟩
abbrev main_call14_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩

abbrev nD : Nat := 1
abbrev τ : Topo := Topo.v7x

variable {F : FTy → Type} [FloatOps F]
-- ==== Proof.Tile.lean ====
/- What one tile of the kernel computes, and how the tiles of one column group add up.

   The kernel works on 256 result columns at a time and walks over the 5120 inputs in 20 steps of 256. One step
   builds a 256 × 256 tile of weights from 64 byte rows of codes, 32 byte rows of positions and two pairs of
   scale rows, multiplies the 256 inputs with it and adds the product to the sum so far. The definitions here
   name the parts of a step; they say nothing about where the rows come from. -/
module

public import proofs.«01_k».proof.Proof.Gen.KernelIdeal

@[expose] public section

noncomputable section

namespace Cert.KernelIdeal.Tile

open Cert.KernelIdeal Idealize.ShloMosaic Idealize.SL.Sem

variable {F : FTy → Type} [FloatOps F]

/-- The bit position of each of the eight 4-bit fields of a word: four times its place on axis 1. -/
def place : IVec S8x8x256 32 :=
  muli (broadcast S8x8x256 4#32) (iota .tc S8x8x256 32 [1] Gen.iota_S8x8x256_d1_w32)

/-- The low four bits of 64 rows of bytes, eight rows to a word, each field with its top bit flipped. -/
def pack (b : IVec S64x256 8) : IVec S8x256 32 :=
  xori
    (multiReductionI .add [1] S8x256
      (shli (shapeCast S8x8x256 (andi (extsi 32 b Gen.natLt_8_32) (broadcast S64x256 15#32)) Gen.shapeCasts_S64x256_S8x8x256) place)
      0#32 Gen.reduces_S8x8x256_S8x256 rfl)
    (broadcast S8x256 2290649224#32)

/-- The bytes with their high four bits moved down, through words of four rows. -/
def highHalves (b : IVec S64x256 8) : IVec S64x256 8 :=
  bitcast S64x256 8 (shrui (bitcast S16x256 32 b Gen.bitcasts_S64x256_w8_S16x256_w32) (broadcast S16x256 4#32))
    Gen.bitcasts_S16x256_w32_S64x256_w8

/-- Four rows of position bytes to a word. -/
def posWord (b : IVec S32x256 8) : IVec S8x256 32 :=
  bitcast S8x256 32 b Gen.bitcasts_S32x256_w8_S8x256_w32

/-- The lowest bit of every 4-bit field, spread over the field. -/
def spread (w : IVec S8x256 32) : IVec S8x256 32 :=
  subi (shli (andi w (broadcast S8x256 286331153#32)) (broadcast S8x256 4#32)) (andi w (broadcast S8x256 286331153#32))

/-- Every bit flipped. -/
def flip (w : IVec S8x256 32) : IVec S8x256 32 := xori w (constantI S8x256 32 4294967295#32)

/-- Bit `s` of every 4-bit field, spread over the field. -/
def bitMask (s : BitVec 32) (w : IVec S8x256 32) : IVec S8x256 32 := spread (shrui w (broadcast S8x256 s))

/-- The words of the weights at position 0 of each group of four inputs: the first code where its position is 0. -/
def word0 (c0 w : IVec S8x256 32) : IVec S8x256 32 := andi (andi c0 (flip (spread w))) (flip (bitMask 1#32 w))

/-- The words at position 1: the first code where its position is 1, or the second where its is. -/
def word1 (c0 c1 w : IVec S8x256 32) : IVec S8x256 32 := ori (andi c0 (spread w)) (andi c1 (flip (bitMask 3#32 w)))

/-- The words at position 2: the first code where its position is 2, or the second where its is. -/
def word2 (c0 c1 w : IVec S8x256 32) : IVec S8x256 32 := ori (andi c0 (bitMask 1#32 w)) (andi c1 (flip (bitMask 2#32 w)))

/-- The words at position 3: the second code where its position is 3. -/
def word3 (c1 w : IVec S8x256 32) : IVec S8x256 32 := andi (andi c1 (bitMask 3#32 w)) (bitMask 2#32 w)

/-- The signed 4-bit fields of words of eight, times the rows' scales. -/
def unpack (d : IVec S8x256 32) (sc : FVec F S64x256 .bf16) : FVec F S64x256 .bf16 :=
  mulf (sitofp .bf16 (shapeCast S64x256
    (shrsi
      (shli (broadcastTo S8x8x256 (shapeCast S8x1x256 d Gen.shapeCasts_S8x256_S8x1x256) Gen.broadcasts_S8x1x256_S8x8x256)
        (subi (broadcast S8x8x256 28#32) place))
      (broadcast S8x8x256 28#32))
    Gen.shapeCasts_S8x8x256_S64x256)) sc

/-- One row sixteen times over. -/
def sixteen (r : FVec F S1x256 .bf16) : FVec F S16x256 .bf16 :=
  concatenate S16x256 0 [⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩, ⟨S1x256, r⟩]
    Gen.concatenates_S1x256_S1x256_S1x256_S1x256_S1x256_S1x256_S1x256_S1x256_S1x256_S1x256_S1x256_S1x256_S1x256_S1x256_S1x256_S1x256_S16x256_d0

/-- A pair of scale rows spread over 32 rows, alternating. -/
def pairRows (raw : Vec F S1x2x256 .bf16) : FVec F S32x256 .bf16 :=
  interleaveRows S32x256
    (sixteen (shapeCast S1x256 (rowsOfParity 0 S1x1x256 raw Gen.bitcasts_S1x2x256_w16_S1x1x256_w32) Gen.shapeCasts_S1x1x256_S1x256))
    (sixteen (shapeCast S1x256 (rowsOfParity 1 S1x1x256 raw Gen.bitcasts_S1x2x256_w16_S1x1x256_w32) Gen.shapeCasts_S1x1x256_S1x256))
    Gen.bitcasts_S32x256_w16_S16x256_w32

/-- The scales of a tile's 64 groups of four inputs: 32 rows of the first pair, then 32 of the second. -/
def scales (ra rb : Vec F S1x2x256 .bf16) : FVec F S64x256 .bf16 :=
  concatenate S64x256 0 [⟨S32x256, pairRows ra⟩, ⟨S32x256, pairRows rb⟩] Gen.concatenates_S32x256_S32x256_S64x256_d0

/-- A tile of weights: 64 rows for each of the four positions, one position after the other. -/
def tile (wv : Vec F S64x256 .i8) (wi : Vec F S32x256 .i8) (ra rb : Vec F S1x2x256 .bf16) : FVec F S256x256 .bf16 :=
  concatenate S256x256 0
    [⟨S64x256, unpack (word0 (pack wv) (posWord wi)) (scales ra rb)⟩,
     ⟨S64x256, unpack (word1 (pack wv) (pack (highHalves wv)) (posWord wi)) (scales ra rb)⟩,
     ⟨S64x256, unpack (word2 (pack wv) (pack (highHalves wv)) (posWord wi)) (scales ra rb)⟩,
     ⟨S64x256, unpack (word3 (pack (highHalves wv)) (posWord wi)) (scales ra rb)⟩]
    Gen.concatenates_S64x256_S64x256_S64x256_S64x256_S256x256_d0

/-- One step: the inputs' product with the tile, added to the sum so far. -/
def step (acc : FVec F S16x256 .f32) (xt : Vec F S16x256 .bf16) (wv : Vec F S64x256 .i8) (wi : Vec F S32x256 .i8)
    (ra rb : Vec F S1x2x256 .bf16) : FVec F S16x256 .f32 :=
  addf acc (matmul dot_S16x256_S256x256_S16x256_1_0_0_1_n_n none
    (shapeCast S16x256 xt Gen.shapeCasts_S16x256_S16x256) (tile wv wi ra rb) (constant S16x256 .f32 0x00000000#32))

/-- The sum after the first `k` of the 20 steps. -/
def sumTo (xt : Fin 20 → Vec F S16x256 .bf16) (wv : Fin 20 → Vec F S64x256 .i8) (wi : Fin 20 → Vec F S32x256 .i8)
    (ra rb : Fin 20 → Vec F S1x2x256 .bf16) (k : ℕ) : k ≤ 20 → FVec F S16x256 .f32 :=
  Nat.rec (motive := fun k => k ≤ 20 → FVec F S16x256 .f32)
    (fun _ => broadcast S16x256 (Scalar.ofBits .f32 0x00000000#32))
    (fun k ih h => step (ih (Nat.le_of_lt h)) (xt ⟨k, h⟩) (wv ⟨k, h⟩) (wi ⟨k, h⟩) (ra ⟨k, h⟩) (rb ⟨k, h⟩)) k

/-- What is stored for a column group: the first two rows of the sum over all 20 steps, rounded. -/
def result (xt : Fin 20 → Vec F S16x256 .bf16) (wv : Fin 20 → Vec F S64x256 .i8) (wi : Fin 20 → Vec F S32x256 .i8)
    (ra rb : Fin 20 → Vec F S1x2x256 .bf16) : FVec F S2x256 .bf16 :=
  truncf .bf16 (extractStridedSlice S2x256 ![0, 0] (sumTo xt wv wi ra rb 20 (Nat.le_refl 20)) Gen.slices_S16x256_o0_0_S2x256)
    Gen.bitsLt_bf16_f32

end Cert.KernelIdeal.Tile

end
-- ==== Proof.Pieces.lean ====
/- What the kernel's body stores at one grid point: four groups of 256 result columns, each the `Tile.result` of
   the rectangles its twenty steps load. -/
module

public import proofs.«01_k».proof.Proof.Gen.KernelIdeal.Value
public import proofs.«01_k».proof.Proof.Tile

@[expose] public section

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The inputs of step `k`: 256 columns of the permuted activations. -/
def rectX (k : Fin 20) : Rect S16x5120 :=
  Rect.unit ![0, 256 * k.val] S16x256.size (Fin.forall_fin_two.mpr ⟨Nat.le_refl 16, (by have := k.isLt; show 256 * k.val + 256 ≤ 5120; omega)⟩)

/-- The codes of step `k` and column group `n`. -/
def rectV (n : Fin 4) (k : Fin 20) : Rect S1280x1024 :=
  Rect.unit ![64 * k.val, 256 * n.val] S64x256.size (Fin.forall_fin_two.mpr
    ⟨(by have := k.isLt; show 64 * k.val + 64 ≤ 1280; omega), (by have := n.isLt; show 256 * n.val + 256 ≤ 1024; omega)⟩)

/-- The positions of step `k` and column group `n`. -/
def rectI (n : Fin 4) (k : Fin 20) : Rect S640x1024 :=
  Rect.unit ![32 * k.val, 256 * n.val] S32x256.size (Fin.forall_fin_two.mpr
    ⟨(by have := k.isLt; show 32 * k.val + 32 ≤ 640; omega), (by have := n.isLt; show 256 * n.val + 256 ≤ 1024; omega)⟩)

/-- A pair of scale rows of step `k` and column group `n`. -/
def rectS (n : Fin 4) (k : Fin 20) : Rect S20x2x1024 :=
  Rect.unit ![k.val, 0, 256 * n.val] S1x2x256.size (fun a => match a with
    | ⟨0, _⟩ => (by have := k.isLt; show k.val + 1 ≤ 20; omega)
    | ⟨1, _⟩ => Nat.le_refl 2
    | ⟨2, _⟩ => (by have := n.isLt; show 256 * n.val + 256 ≤ 1024; omega))

/-- The columns of group `n` of the result's block. -/
def rectO (n : Fin 4) : Rect S2x1024 :=
  Rect.unit ![0, 256 * n.val] S2x256.size (Fin.forall_fin_two.mpr
    ⟨Nat.le_refl 2, (by have := n.isLt; show 256 * n.val + 256 ≤ 1024; omega)⟩)

/-- Rows of one parity of the scales, each twice: what the body keeps in a scratch buffer. -/
def doubled (p : Fin 2) (s : Vec F S40x1024 .bf16) : Vec F S20x2x1024 .bf16 :=
  interleaveRows S20x2x1024
    (shapeCast S20x1x1024 (rowsOfParity p S20x1024 s bitcasts_S40x1024_w16_S20x1024_w32) shapeCasts_S20x1024_S20x1x1024)
    (shapeCast S20x1x1024 (rowsOfParity p S20x1024 s bitcasts_S40x1024_w16_S20x1024_w32) shapeCasts_S20x1024_S20x1x1024)
    bitcasts_S20x2x1024_w16_S20x1x1024_w32

section
variable (arg1 : Memref sig .tc .vmem S16x5120 .bf16) (harg1 : arg1.IsWhole) (arg2 : Memref sig .tc .vmem S1280x1024 .i8) (harg2 : arg2.IsWhole) (arg3 : Memref sig .tc .vmem S640x1024 .i8) (harg3 : arg3.IsWhole) (arg4 : Memref sig .tc .vmem S40x1024 .bf16) (harg4 : arg4.IsWhole) (arg6 : Memref sig .tc .vmem S20x2x1024 .bf16) (arg7 : Memref sig .tc .vmem S20x2x1024 .bf16)
    (x0 : Vec F S16x5120 .bf16) (x1 : Vec F S1280x1024 .i8) (x2 : Vec F S640x1024 .i8) (x3 : Vec F S40x1024 .bf16)

/-- What the run stores for column group `n`, in the run's own terms for its loads. -/
def stored (n : Fin 4) : Vec F S2x256 .bf16 :=
  Tile.result
    (fun k => View.readAt (Elt F) arg1.view (rectX k).toLoadRect (harg1.unread x0))
    (fun k => View.readAt (Elt F) arg2.view (rectV n k).toLoadRect (harg2.unread x1))
    (fun k => View.readAt (Elt F) arg3.view (rectI n k).toLoadRect (harg3.unread x2))
    (fun k => arg6.view.readCov [⟨Rect.unit (s := S20x2x1024) ![0, 0, 0] S20x2x1024.size inb_S20x2x1024_S20x2x1024_0_0_0,
      doubled 0 (View.readAt (Elt F) arg4.view (Rect.unit (s := S40x1024) ![0, 0] S40x1024.size inb_S40x1024_S40x1024_0_0).toLoadRect (harg4.unread x3))⟩] (rectS n k).toLoadRect)
    (fun k => arg7.view.readCov [⟨Rect.unit (s := S20x2x1024) ![0, 0, 0] S20x2x1024.size inb_S20x2x1024_S20x2x1024_0_0_0,
      doubled 1 (View.readAt (Elt F) arg4.view (Rect.unit (s := S40x1024) ![0, 0] S40x1024.size inb_S40x1024_S40x1024_0_0).toLoadRect (harg4.unread x3))⟩] (rectS n k).toLoadRect)

set_option maxRecDepth 65536 in
/-- The four pieces of the run, last first. -/
theorem run_pieces (c : Dev nD) (i : grid0.Coords) (arg5 : Memref sig .tc .vmem S2x1024 .bf16) (harg5 : arg5.IsWhole) (harg6 : arg6.IsWhole) (harg7 : arg7.IsWhole) :
    (kernelRun0_A c i arg1 harg1 arg2 harg2 arg3 harg3 arg4 harg4 arg5 harg5 arg6 harg6 arg7 harg7 x0 x1 x2 x3).1
      = [⟨rectO 3, stored arg1 harg1 arg2 harg2 arg3 harg3 arg4 harg4 arg6 arg7 x0 x1 x2 x3 3⟩,
         ⟨rectO 2, stored arg1 harg1 arg2 harg2 arg3 harg3 arg4 harg4 arg6 arg7 x0 x1 x2 x3 2⟩,
         ⟨rectO 1, stored arg1 harg1 arg2 harg2 arg3 harg3 arg4 harg4 arg6 arg7 x0 x1 x2 x3 1⟩,
         ⟨rectO 0, stored arg1 harg1 arg2 harg2 arg3 harg3 arg4 harg4 arg6 arg7 x0 x1 x2 x3 0⟩] := by
  unfold kernelRun0_A
  dsimp only
  sl_kernel_rfl

end

end Cert.KernelIdeal.Pieces

end
-- ==== Proof.Bits.lean ====
/- Facts about the eight 4-bit fields of a 32-bit word: what masking, packing and unpacking do to each field.

   The kernel handles eight rows of 4-bit codes in one word. Everything it does with such a word acts on each
   field separately, so every fact here is about one field. -/
module

public import Idealize.ShloMosaic.Lib.BitcastFour
public import Mathlib.Data.BitVec
public import Mathlib.Algebra.BigOperators.Fin
public import Mathlib.Tactic.Ring
public import Mathlib.Tactic.NormNum

@[expose] public section

namespace Cert.Bits

/-- Field `j` of a word: its bits `4 j` to `4 j + 3`. -/
def field (w : BitVec 32) (j : Fin 8) : BitVec 4 := w.extractLsb' (4 * j.val) 4

/-- A bit of a field is a bit of the word. -/
theorem field_getLsbD (w : BitVec 32) (j : Fin 8) (i : ℕ) (hi : i < 4) : (field w j).getLsbD i = w.getLsbD (4 * j.val + i) := by
  simp [field, hi]

/-- Two 4-bit words are equal when their four bits are. -/
theorem ext4 {x y : BitVec 4} (h : ∀ i, i < 4 → x.getLsbD i = y.getLsbD i) : x = y :=
  BitVec.eq_of_getLsbD_eq h

/-- A field of a conjunction. -/
theorem field_and (v w : BitVec 32) (j : Fin 8) : field (v &&& w) j = field v j &&& field w j :=
  ext4 fun i hi => by simp [field_getLsbD _ _ _ hi]

/-- A field of a disjunction. -/
theorem field_or (v w : BitVec 32) (j : Fin 8) : field (v ||| w) j = field v j ||| field w j :=
  ext4 fun i hi => by simp [field_getLsbD _ _ _ hi]

/-- A field of an exclusive or. -/
theorem field_xor (v w : BitVec 32) (j : Fin 8) : field (v ^^^ w) j = field v j ^^^ field w j :=
  ext4 fun i hi => by simp [field_getLsbD _ _ _ hi]

/-- The lowest bit of every field, spread over the field. -/
def spread (w : BitVec 32) : BitVec 32 := ((w &&& 286331153#32) <<< 4) - (w &&& 286331153#32)

/-- The word whose fields hold one bit each. -/
def ofBits (b : Fin 8 → Bool) : BitVec 32 :=
  BitVec.ofNat 32 ((b 0).toNat + 16 * ((b 1).toNat + 16 * ((b 2).toNat + 16 * ((b 3).toNat + 16 * ((b 4).toNat + 16 * ((b 5).toNat + 16 * ((b 6).toNat + 16 * (b 7).toNat)))))))

/-- Eight bits spread: each field is all ones or all zeros. -/
theorem ofBits_spread : ∀ b0 b1 b2 b3 b4 b5 b6 b7 : Bool, ∀ j : Fin 8,
    field ((ofBits ![b0, b1, b2, b3, b4, b5, b6, b7] <<< 4) - ofBits ![b0, b1, b2, b3, b4, b5, b6, b7]) j
      = if ![b0, b1, b2, b3, b4, b5, b6, b7] j then 15#4 else 0#4 := by decide +kernel

/-- The bits of the word whose fields hold one bit each. -/
theorem ofBits_getLsbD : ∀ b0 b1 b2 b3 b4 b5 b6 b7 : Bool, ∀ i : Fin 32,
    (ofBits ![b0, b1, b2, b3, b4, b5, b6, b7]).getLsbD i
      = (decide (i.val % 4 = 0) && ![b0, b1, b2, b3, b4, b5, b6, b7] ⟨i.val / 4, by omega⟩) := by decide +kernel

/-- The mask has the lowest bit of every field. -/
theorem mask_getLsbD : ∀ i : Fin 32, (286331153#32).getLsbD i = decide (i.val % 4 = 0) := by decide +kernel

/-- The masked word by its eight bits. -/
theorem masked_eq (w : BitVec 32) : w &&& 286331153#32
    = ofBits ![w.getLsbD 0, w.getLsbD 4, w.getLsbD 8, w.getLsbD 12, w.getLsbD 16, w.getLsbD 20, w.getLsbD 24, w.getLsbD 28] := by
  apply BitVec.eq_of_getLsbD_eq
  intro i hi
  rw [ofBits_getLsbD _ _ _ _ _ _ _ _ ⟨i, hi⟩, BitVec.getLsbD_and, mask_getLsbD ⟨i, hi⟩, Bool.and_comm]
  by_cases h : i % 4 = 0
  · obtain ⟨k, rfl⟩ : ∃ k : ℕ, i = 4 * k := ⟨i / 4, by omega⟩
    have hk : k < 8 := by omega
    have e : (⟨4 * k / 4, by omega⟩ : Fin 8) = ⟨k, hk⟩ := Fin.ext (by show 4 * k / 4 = k; omega)
    simp only [h, e]
    interval_cases k <;> rfl
  · simp [h]

/-- Spreading fills a field with its lowest bit. -/
theorem field_spread (w : BitVec 32) (j : Fin 8) : field (spread w) j = if (field w j).getLsbD 0 then 15#4 else 0#4 := by
  rw [spread, masked_eq, ofBits_spread, field_getLsbD _ _ _ (by decide)]
  fin_cases j <;> rfl

/-- Spreading after a shift by `s` fills a field with its bit `s`. -/
theorem field_spread_shift (w : BitVec 32) (s : ℕ) (hs : s < 4) (j : Fin 8) :
    field (spread (w >>> s)) j = if (field w j).getLsbD s then 15#4 else 0#4 := by
  rw [field_spread, field_getLsbD _ _ _ (by decide), field_getLsbD _ _ _ hs, BitVec.getLsbD_ushiftRight,
    Nat.add_zero, Nat.add_comm]

/-- Every field of the word of ones. -/
theorem field_ones : ∀ j : Fin 8, field 4294967295#32 j = 15#4 := by decide +kernel

/-- Every field of the word of top bits. -/
theorem field_tops : ∀ j : Fin 8, field 2290649224#32 j = 8#4 := by decide +kernel

/-- The code that stands at position `p` of a group of four, `0` where none does: the group's positions field `q` holds
    the first code's position in its low two bits and the second's in its high two. -/
def pick (c0 c1 q : BitVec 4) (p : Fin 4) : BitVec 4 :=
  if q.toNat % 4 = p.val then c0 else if q.toNat / 4 = p.val then c1 else 0#4

/-- The two positions of a positions field come in order. -/
def Ordered (q : BitVec 4) : Prop := q.toNat % 4 < q.toNat / 4

instance (q : BitVec 4) : Decidable (Ordered q) := inferInstanceAs (Decidable (_ < _))

/-- The masks of position 0, in one field. -/
theorem pick0 : ∀ c0 c1 q : BitVec 4, Ordered q →
    (c0 &&& ((if q.getLsbD 0 then 15#4 else 0#4) ^^^ 15#4)) &&& ((if q.getLsbD 1 then 15#4 else 0#4) ^^^ 15#4)
      = pick c0 c1 q 0 := by decide +kernel

/-- The masks of position 1, in one field. -/
theorem pick1 : ∀ c0 c1 q : BitVec 4, Ordered q →
    (c0 &&& (if q.getLsbD 0 then 15#4 else 0#4)) ||| (c1 &&& ((if q.getLsbD 3 then 15#4 else 0#4) ^^^ 15#4))
      = pick c0 c1 q 1 := by decide +kernel

/-- The masks of position 2, in one field. -/
theorem pick2 : ∀ c0 c1 q : BitVec 4, Ordered q →
    (c0 &&& (if q.getLsbD 1 then 15#4 else 0#4)) ||| (c1 &&& ((if q.getLsbD 2 then 15#4 else 0#4) ^^^ 15#4))
      = pick c0 c1 q 2 := by decide +kernel

/-- The masks of position 3, in one field. -/
theorem pick3 : ∀ c0 c1 q : BitVec 4, Ordered q →
    (c1 &&& (if q.getLsbD 3 then 15#4 else 0#4)) &&& (if q.getLsbD 2 then 15#4 else 0#4)
      = pick c0 c1 q 3 := by decide +kernel

/-- A code with its top bit flipped, read with its sign, is the code less 8. -/
theorem toInt_flip : ∀ c : BitVec 4, (c ^^^ 8#4).toInt = (c.toNat : ℤ) - 8 := by decide +kernel

/-- The weight's integer at position `p`: the code there less 8, or 0. -/
def weight (c0 c1 q : BitVec 4) (p : Fin 4) : ℤ :=
  if q.toNat % 4 = p.val then (c0.toNat : ℤ) - 8 else if q.toNat / 4 = p.val then (c1.toNat : ℤ) - 8 else 0

/-- A picked field, read with its sign, when the codes come with their top bits flipped. -/
theorem toInt_pick (c0 c1 q : BitVec 4) (p : Fin 4) : (pick (c0 ^^^ 8#4) (c1 ^^^ 8#4) q p).toInt = weight c0 c1 q p := by
  unfold pick weight
  split
  · exact toInt_flip c0
  · split
    · exact toInt_flip c1
    · rfl

/-- The positions of one of a byte's two groups: its low (`e = 0`) or its high half. -/
def posHalf (b : BitVec 8) (e : ℕ) : BitVec 4 := (b >>> (4 * e)).setWidth 4

/-- The weight's integer at position `p` from the byte of the group's two codes and its half of the positions byte. -/
def byteWeight (v : BitVec 8) (q : BitVec 4) (p : Fin 4) : ℤ := weight (v.setWidth 4) ((v >>> 4).setWidth 4) q p

/-- Eight 4-bit numbers added at their places keep to their fields. -/
theorem field_sum (n : Fin 8 → BitVec 32) (j : Fin 8) :
    field (∑ t : Fin 8, (n t &&& 15#32) <<< (4 * t.val)) j = (n j).setWidth 4 := by
  have hm : ∀ t, ((n t &&& 15#32) <<< (4 * t.val)).toNat = ((n t).toNat % 16) * 16 ^ t.val := by
    intro t
    have h15 : (n t &&& 15#32).toNat = (n t).toNat % 16 := by
      rw [BitVec.toNat_and]; exact Nat.and_two_pow_sub_one_eq_mod (n t).toNat 4
    rw [BitVec.toNat_shiftLeft, h15, Nat.shiftLeft_eq]
    have ht := t.isLt
    have hp : (2 : ℕ) ^ (4 * t.val) = 16 ^ t.val := by rw [pow_mul]; norm_num
    rw [hp]
    refine Nat.mod_eq_of_lt ?_
    have h1 : (n t).toNat % 16 < 16 := Nat.mod_lt _ (by decide)
    calc (n t).toNat % 16 * 16 ^ t.val < 16 * 16 ^ t.val := Nat.mul_lt_mul_of_pos_right h1 (by positivity)
      _ = 16 ^ (t.val + 1) := by ring
      _ ≤ 16 ^ 8 := Nat.pow_le_pow_right (by decide) (by omega)
      _ = 2 ^ 32 := by norm_num
  apply BitVec.eq_of_toNat_eq
  rw [field, BitVec.extractLsb'_toNat, BitVec.toNat_setWidth, Fin.sum_univ_eight]
  simp only [BitVec.toNat_add, hm, Nat.shiftRight_eq_div_pow]
  have hb : ∀ t, (n t).toNat % 16 < 16 := fun t => Nat.mod_lt _ (by decide)
  have b0 := hb 0; have b1 := hb 1; have b2 := hb 2; have b3 := hb 3
  have b4 := hb 4; have b5 := hb 5; have b6 := hb 6; have b7 := hb 7
  fin_cases j <;> simp only [Fin.val_zero, Fin.val_one, Fin.reduceFinMk, Fin.isValue] <;>
    norm_num <;> omega

/-- A field moved to the top of the word and back down with its sign. -/
theorem toInt_unpack (d : BitVec 32) (j : Fin 8) : ((d <<< (28 - 4 * j.val)).sshiftRight 28).toInt = (field d j).toInt := by
  have e : (d <<< (28 - 4 * j.val)).sshiftRight 28 = (field d j).signExtend 32 := by
    apply BitVec.eq_of_getLsbD_eq
    intro i hi
    have hj := j.isLt
    rw [BitVec.getLsbD_sshiftRight, BitVec.getLsbD_signExtend, BitVec.msb_eq_getLsbD_last, BitVec.msb_eq_getLsbD_last,
      BitVec.getLsbD_shiftLeft, BitVec.getLsbD_shiftLeft]
    by_cases h4 : i < 4
    · have e1 : 28 + i - (28 - 4 * j.val) = 4 * j.val + i := by omega
      have e2 : ¬ 28 + i < 28 - 4 * j.val := by omega
      rw [field_getLsbD _ _ _ h4, if_pos (show 28 + i < 32 by omega), if_pos h4, e1]
      simp [hi, e2, show ¬ 32 ≤ i by omega]
      omega
    · have e1 : 32 - 1 - (28 - 4 * j.val) = 4 * j.val + (4 - 1) := by omega
      have e2 : ¬ 32 - 1 < 28 - 4 * j.val := by omega
      rw [if_neg (show ¬ 28 + i < 32 by omega), if_neg h4, e1]
      simp [hi, e2, show ¬ 32 ≤ i by omega]
      rw [← BitVec.getLsbD_eq_getElem]
      exact (field_getLsbD d j 3 (by omega)).symm
  rw [e, BitVec.toInt_signExtend_of_le (by decide)]

end Cert.Bits
-- ==== Proof.Words.lean ====
/- The kernel's words of packed codes, field by field: the fields that packing fills, what the position masks pick and what
   unpacking reads back. -/
module

public import proofs.«01_k».proof.Proof.Tile
public import proofs.«01_k».proof.Proof.Bits
public import Idealize.ShloMosaic.Lib.Pipeline.Value
public import Idealize.ShloMosaic.Lib.ValueIdx
public import Idealize.ShloMosaic.PureOps.Reduce

@[expose] public section

set_option maxRecDepth 16384

noncomputable section

namespace Cert.KernelIdeal.Tile

open Cert.KernelIdeal Cert.Bits Idealize.ShloMosaic Idealize.SL.Sem
open Idealize.ShloMosaic.ValueIdx (ix2 ix3)

/-- Row `r` of 64 is word row `r / 8`, field `r % 8`. -/
abbrev rowOf (a : Fin 8) (j : Fin 8) : Fin 64 := ⟨8 * a.val + j.val, by omega⟩

/-- The bit position of a field is four times its place. -/
theorem place_apply (a j : Fin 8) (l : Fin 256) : place (ix3 a j l) = BitVec.ofNat 32 (4 * j.val) := by
  have e : iota .tc S8x8x256 32 [1] Gen.iota_S8x8x256_d1_w32 (ix3 a j l) = BitVec.ofNat 32 j.val :=
    iota_single_apply .tc S8x8x256 32 1 Gen.iota_S8x8x256_d1_w32 (ix3 a j l)
  show 4#32 * iota .tc S8x8x256 32 [1] Gen.iota_S8x8x256_d1_w32 (ix3 a j l) = _
  rw [e]
  fin_cases j <;> rfl

/-- Eight rows to a word: the index of a three-axis view. -/
theorem eightRows_apply {α : Type} (x : S64x256.Idx → α) (a j : Fin 8) (l : Fin 256) :
    shapeCast S8x8x256 x Gen.shapeCasts_S64x256_S8x8x256 (ix3 a j l) = x (ix2 (rowOf a j) l) := by
  refine shapeCast_apply x _ _ _ ?_
  rw [Shape.rowMajor_val_two, Shape.rowMajor_val_three]
  show (8 * a.val + j.val) * 256 + l.val = (a.val * 8 + j.val) * 256 + l.val
  omega

/-- … and back. -/
theorem sixtyFour_apply {α : Type} (x : S8x8x256.Idx → α) (a j : Fin 8) (l : Fin 256) :
    shapeCast S64x256 x Gen.shapeCasts_S8x8x256_S64x256 (ix2 (rowOf a j) l) = x (ix3 a j l) := by
  refine shapeCast_apply x _ _ _ ?_
  rw [Shape.rowMajor_val_two, Shape.rowMajor_val_three]
  show (a.val * 8 + j.val) * 256 + l.val = (8 * a.val + j.val) * 256 + l.val
  omega

/-- The sum over axis 1 at a word is the sum of its eight entries. -/
theorem sum_axis1 (x : IVec S8x8x256 32) (a : Fin 8) (l : Fin 256) :
    multiReductionI .add [1] S8x256 x 0#32 Gen.reduces_S8x8x256_S8x256 rfl (ix2 a l) = ∑ t : Fin 8, x (ix3 a t l) := by
  refine (multiReductionI_eq_fold _ _ _ _ _ _).trans ?_
  have hs : (Finset.univ.filter fun i : S8x8x256.Idx => Gen.reduces_S8x8x256_S8x256.drop i = ix2 a l)
      = Finset.univ.image (fun t : Fin 8 => (ix3 a t l : S8x8x256.Idx)) := by
    ext i
    simp only [Finset.mem_filter, Finset.mem_univ, true_and, Finset.mem_image]
    have e0 := Gen.reduces_S8x8x256_S8x256.drop_apply_val_of_eq i 0 0
    have e1 := Gen.reduces_S8x8x256_S8x256.drop_apply_val_of_eq i 1 2
    constructor
    · intro h
      rw [h] at e0 e1
      refine ⟨i 1, ?_⟩
      funext d
      match d with
      | ⟨0, _⟩ => exact Fin.ext e0
      | ⟨1, _⟩ => rfl
      | ⟨2, _⟩ => exact Fin.ext e1
    · rintro ⟨t, rfl⟩
      funext d
      match d with
      | ⟨0, _⟩ => exact Fin.ext e0
      | ⟨1, _⟩ => exact Fin.ext e1
  rw [hs]
  show Finset.sum _ x = _
  refine Finset.sum_image fun t _ t' _ h => ?_
  exact congrFun h (1 : Fin 3)

/-- A shift by the place of each field. -/
theorem shl_place (x : IVec S8x8x256 32) (a j : Fin 8) (l : Fin 256) :
    shli x place (ix3 a j l) = x (ix3 a j l) <<< (4 * j.val) := by
  have hj := j.isLt
  have hn : (BitVec.ofNat 32 (4 * j.val)).toNat = 4 * j.val := by
    rw [BitVec.toNat_ofNat]; exact Nat.mod_eq_of_lt (by omega)
  have h1 : shli x place (ix3 a j l) = IntOp.shli .vector (x (ix3 a j l)) (place (ix3 a j l)) := rfl
  rw [h1, place_apply]
  unfold IntOp.shli
  rw [if_pos (by rw [hn]; omega), BitVec.shiftLeft_eq', hn]

/-- The low halves of the bytes, before they are placed. -/
abbrev lows (b : IVec S64x256 8) : IVec S8x8x256 32 :=
  shapeCast S8x8x256 (andi (extsi 32 b Gen.natLt_8_32) (broadcast S64x256 15#32)) Gen.shapeCasts_S64x256_S8x8x256

/-- A low half, at an index. -/
theorem lows_apply (b : IVec S64x256 8) (a j : Fin 8) (l : Fin 256) :
    lows b (ix3 a j l) = (b (ix2 (rowOf a j) l)).signExtend 32 &&& 15#32 := by
  unfold lows
  rw [eightRows_apply]
  rfl

/-- A packed word is the sum of its eight rows' low halves, each at its place, its fields' top bits flipped. -/
theorem pack_apply (b : IVec S64x256 8) (a : Fin 8) (l : Fin 256) :
    pack b (ix2 a l)
      = (∑ t : Fin 8, (((b (ix2 (rowOf a t) l)).signExtend 32) &&& 15#32) <<< (4 * t.val)) ^^^ 2290649224#32 := by
  have h1 : pack b (ix2 a l)
      = multiReductionI .add [1] S8x256 (shli (lows b) place) 0#32 Gen.reduces_S8x8x256_S8x256 rfl (ix2 a l) ^^^ 2290649224#32 := rfl
  rw [h1]
  refine congrArg (· ^^^ 2290649224#32) ((sum_axis1 _ a l).trans (Finset.sum_congr rfl fun t _ => ?_))
  rw [shl_place, lows_apply]

/-- A packed word's field is the low half of its row's byte with the top bit flipped. -/
theorem field_pack (b : IVec S64x256 8) (a j : Fin 8) (l : Fin 256) :
    field (pack b (ix2 a l)) j = (b (ix2 (rowOf a j) l)).setWidth 4 ^^^ 8#4 := by
  rw [pack_apply, field_xor, field_tops, field_sum]
  congr 1
  apply ext4
  intro i hi
  simp only [BitVec.getLsbD_setWidth, BitVec.getLsbD_signExtend, hi, show i < 32 by omega, show i < 8 by omega, decide_true, Bool.true_and, if_true]

/-- The bytes with their high halves moved down, in their low halves. -/
theorem highHalves_low (b : IVec S64x256 8) (a : Fin 16) (k : Fin 4) (l : Fin 256) :
    (highHalves b (ix2 (⟨4 * a.val + k.val, by omega⟩ : Fin 64) l)).setWidth 4
      = ((b (ix2 (⟨4 * a.val + k.val, by omega⟩ : Fin 64) l)) >>> 4).setWidth 4 := by
  apply ext4
  intro i hi
  have hk := k.isLt
  rw [BitVec.getLsbD_setWidth, BitVec.getLsbD_setWidth, BitVec.getLsbD_ushiftRight]
  congr 1
  unfold highHalves
  rw [bitcast_getLsbD _ Gen.bitcasts_S16x256_w32_S64x256_w8 _ i (by omega) (by decide)]
  have hsrc : Gen.bitcasts_S16x256_w32_S64x256_w8.srcIdx (ix2 (⟨4 * a.val + k.val, by omega⟩ : Fin 64) l)
      (((⟨2, ![64, 256]⟩ : Shape).row (ix2 (⟨4 * a.val + k.val, by omega⟩ : Fin 64) l) * 8 + i) / 32) (fun c hc =>
          (Nat.div_lt_iff_lt_mul (by decide)).2 (Gen.bitcasts_S16x256_w32_S64x256_w8.pos_lt _ i (by omega) c hc)) = ix2 a l := by
    funext c
    match c with
    | ⟨0, _⟩ =>
      refine Fin.ext ((Shape.Bitcasts.srcIdx_row _ _ _ _ ⟨0, Nat.zero_lt_two⟩ rfl).trans ?_)
      show ((4 * a.val + k.val) * 8 + i) / 32 = a.val
      omega
    | ⟨1, _⟩ => exact Fin.ext (Shape.Bitcasts.srcIdx_other _ _ _ _ ⟨1, Nat.one_lt_two⟩ (by show ¬ 1 + 2 = 2; omega))
  have hm : ((⟨2, ![64, 256]⟩ : Shape).row (ix2 (⟨4 * a.val + k.val, by omega⟩ : Fin 64) l) * 8 + i) % 32 = 8 * k.val + i := by
    show ((4 * a.val + k.val) * 8 + i) % 32 = 8 * k.val + i
    omega
  refine (congrArg₂ (fun (w : S16x256.Idx) (n : ℕ) => (shrui (bitcast S16x256 32 b Gen.bitcasts_S64x256_w8_S16x256_w32) (broadcast S16x256 4#32) w).getLsbD n) hsrc hm).trans ?_
  show (bitcast S16x256 32 b Gen.bitcasts_S64x256_w8_S16x256_w32 (ix2 a l) >>> 4).getLsbD (8 * k.val + i) = _
  rw [BitVec.getLsbD_ushiftRight, bitcast_8_32_getLsbD_ix2 b _ a l (4 + (8 * k.val + i)) (by omega)
    (⟨4 * a.val + k.val, by omega⟩ : Fin 64) (by show 4 * a.val + k.val = 4 * a.val + (4 + (8 * k.val + i)) / 8; omega)]
  congr 1
  omega

/-- The same by the row alone. -/
theorem highHalves_setWidth (b : IVec S64x256 8) (r : Fin 64) (l : Fin 256) :
    (highHalves b (ix2 r l)).setWidth 4 = ((b (ix2 r l)) >>> 4).setWidth 4 := by
  have e : r = (⟨4 * (r.val / 4) + r.val % 4, by omega⟩ : Fin 64) := Fin.ext (by show r.val = 4 * (r.val / 4) + r.val % 4; omega)
  rw [e]
  exact highHalves_low b ⟨r.val / 4, by omega⟩ ⟨r.val % 4, by omega⟩ l

/-- Row `r` of 64 has its positions in byte row `r / 2`. -/
abbrev posRow (a j : Fin 8) : Fin 32 := ⟨4 * a.val + j.val / 2, by omega⟩

/-- A position word's field is its row's half byte. -/
theorem field_posWord (b : IVec S32x256 8) (a j : Fin 8) (l : Fin 256) :
    field (posWord b (ix2 a l)) j = posHalf (b (ix2 (posRow a j) l)) (j.val % 2) := by
  apply ext4
  intro i hi
  have hj := j.isLt
  rw [field_getLsbD _ _ _ hi]
  unfold posWord posHalf
  rw [bitcast_8_32_getLsbD_ix2 b _ a l (4 * j.val + i) (by omega) (posRow a j) (by show 4 * a.val + j.val / 2 = 4 * a.val + (4 * j.val + i) / 8; omega),
    BitVec.getLsbD_setWidth, BitVec.getLsbD_ushiftRight]
  have e : (4 * j.val + i) % 8 = 4 * (j.val % 2) + i := by omega
  simp [hi, e]

section
variable (c0 c1 w : IVec S8x256 32) (i : S8x256.Idx) (j : Fin 8)

/-- The lowest bit of a field, spread over it. -/
theorem field_spreadVec : field (Tile.spread w i) j = if (field (w i) j).getLsbD 0 then 15#4 else 0#4 := field_spread (w i) j

/-- Bit `s` of a field, spread over it. -/
theorem field_bitMask (s : Fin 4) : field (bitMask (BitVec.ofNat 32 s.val) w i) j = if (field (w i) j).getLsbD s.val then 15#4 else 0#4 := by
  have e : bitMask (BitVec.ofNat 32 s.val) w i = Bits.spread (w i >>> s.val) := by fin_cases s <;> rfl
  rw [e, field_spread_shift _ _ s.isLt]

/-- A field with all its bits flipped. -/
theorem field_flip : field (flip w i) j = field (w i) j ^^^ 15#4 := by
  show field (w i ^^^ 4294967295#32) j = _
  rw [field_xor, field_ones]

/-- The word of position 0 holds, in each field, the code that stands at that position. -/
theorem field_word0 (h : Ordered (field (w i) j)) : field (word0 c0 w i) j = pick (field (c0 i) j) (field (c1 i) j) (field (w i) j) 0 := by
  show field ((c0 i &&& flip (Tile.spread w) i) &&& flip (bitMask (BitVec.ofNat 32 (1 : Fin 4).val) w) i) j = _
  rw [field_and, field_and, field_flip, field_flip, field_spreadVec, field_bitMask w i j 1]
  exact pick0 _ _ _ h

/-- The word of position 1. -/
theorem field_word1 (h : Ordered (field (w i) j)) : field (word1 c0 c1 w i) j = pick (field (c0 i) j) (field (c1 i) j) (field (w i) j) 1 := by
  show field ((c0 i &&& Tile.spread w i) ||| (c1 i &&& flip (bitMask (BitVec.ofNat 32 (3 : Fin 4).val) w) i)) j = _
  rw [field_or, field_and, field_and, field_flip, field_spreadVec, field_bitMask w i j 3]
  exact pick1 _ _ _ h

/-- The word of position 2. -/
theorem field_word2 (h : Ordered (field (w i) j)) : field (word2 c0 c1 w i) j = pick (field (c0 i) j) (field (c1 i) j) (field (w i) j) 2 := by
  show field ((c0 i &&& bitMask (BitVec.ofNat 32 (1 : Fin 4).val) w i) ||| (c1 i &&& flip (bitMask (BitVec.ofNat 32 (2 : Fin 4).val) w) i)) j = _
  rw [field_or, field_and, field_and, field_flip, field_bitMask w i j 1, field_bitMask w i j 2]
  exact pick2 _ _ _ h

/-- The word of position 3. -/
theorem field_word3 (h : Ordered (field (w i) j)) : field (word3 c1 w i) j = pick (field (c0 i) j) (field (c1 i) j) (field (w i) j) 3 := by
  show field ((c1 i &&& bitMask (BitVec.ofNat 32 (3 : Fin 4).val) w i) &&& bitMask (BitVec.ofNat 32 (2 : Fin 4).val) w i) j = _
  rw [field_and, field_and, field_bitMask w i j 3, field_bitMask w i j 2]
  exact pick3 _ _ _ h

end

/-- Unpacking reads a field with its sign and multiplies it with the row's scale. -/
theorem unpack_apply (d : IVec S8x256 32) (sc : FVec Ideal S64x256 .bf16) (a j : Fin 8) (l : Fin 256) :
    unpack (F := Ideal) d sc (ix2 (rowOf a j) l)
      = (((field (d (ix2 a l)) j).toInt : ℝ) : EReal) * sc (ix2 (rowOf a j) l) := by
  unfold unpack
  rw [ValueIdx.mulf_apply, ValueIdx.sitofp_apply, sixtyFour_apply]
  congr 1
  have hb : broadcastTo S8x8x256 (shapeCast S8x1x256 d Gen.shapeCasts_S8x256_S8x1x256) Gen.broadcasts_S8x1x256_S8x8x256 (ix3 a j l)
      = d (ix2 a l) := by
    rw [broadcastTo_apply _ _ _ (ix3 a (0 : Fin 1) l) (fun c => by
      match c with
      | ⟨0, _⟩ => rfl
      | ⟨1, _⟩ => rfl
      | ⟨2, _⟩ => rfl)]
    refine shapeCast_apply d _ _ _ ?_
    rw [Shape.rowMajor_val_two, Shape.rowMajor_val_three]
    show a.val * 256 + l.val = (a.val * 1 + 0) * 256 + l.val
    omega
  have hs : ∀ (x : BitVec 32) (j : Fin 8), IntOp.shrsi .vector (IntOp.shli .vector x (28#32 - BitVec.ofNat 32 (4 * j.val))) 28#32
      = (x <<< (28 - 4 * j.val)).sshiftRight 28 := by
    intro x j
    have hj := j.isLt
    have hn : (28#32 - BitVec.ofNat 32 (4 * j.val)).toNat = 28 - 4 * j.val := by
      revert j; decide +kernel
    unfold IntOp.shli IntOp.shrsi
    rw [if_pos (by decide), if_pos (by rw [hn]; omega), BitVec.shiftLeft_eq', hn]
    rfl
  have hv : shrsi (shli (broadcastTo S8x8x256 (shapeCast S8x1x256 d Gen.shapeCasts_S8x256_S8x1x256) Gen.broadcasts_S8x1x256_S8x8x256)
        (subi (broadcast S8x8x256 28#32) place)) (broadcast S8x8x256 28#32) (ix3 a j l)
      = (d (ix2 a l) <<< (28 - 4 * j.val)).sshiftRight 28 := by
    have h1 : shrsi (shli (broadcastTo S8x8x256 (shapeCast S8x1x256 d Gen.shapeCasts_S8x256_S8x1x256) Gen.broadcasts_S8x1x256_S8x8x256)
        (subi (broadcast S8x8x256 28#32) place)) (broadcast S8x8x256 28#32) (ix3 a j l)
      = IntOp.shrsi .vector (IntOp.shli .vector (broadcastTo S8x8x256 (shapeCast S8x1x256 d Gen.shapeCasts_S8x256_S8x1x256) Gen.broadcasts_S8x1x256_S8x8x256 (ix3 a j l))
        (28#32 - place (ix3 a j l))) 28#32 := rfl
    rw [h1, hb, place_apply, hs]
  rw [hv]
  show (((((d (ix2 a l) <<< (28 - 4 * j.val)).sshiftRight 28).toInt : ℤ) : ℝ) : EReal) = _
  rw [toInt_unpack]

end Cert.KernelIdeal.Tile

end
-- ==== Proof.TileAt.lean ====
/- What a tile of weights and the sum over the twenty steps hold at an index, over the extended reals. -/
module

public import proofs.«01_k».proof.Proof.Words
public import Idealize.ShloMosaic.PureOps.Ideal.Laws

@[expose] public section

set_option maxRecDepth 16384

noncomputable section

namespace Cert.KernelIdeal.Tile

open Cert.KernelIdeal Cert.Bits Idealize.ShloMosaic Idealize.SL.Sem
open Idealize.ShloMosaic.ValueIdx (ix2 ix3)

/-- One row sixteen times over, at an index. -/
theorem sixteen_apply (r : FVec Ideal S1x256 .bf16) (a : Fin 16) (l : Fin 256) :
    sixteen (F := Ideal) r (ix2 a l) = r (ix2 (0 : Fin 1) l) := by
  have h := concatenate_ofFn_unit_apply (t := S16x256) (s₁ := S1x256) 0 (N := 16) (fun _ => r)
    Gen.concatenates_S1x256_S1x256_S1x256_S1x256_S1x256_S1x256_S1x256_S1x256_S1x256_S1x256_S1x256_S1x256_S1x256_S1x256_S1x256_S1x256_S16x256_d0
    rfl rfl (ix2 a l) a rfl (ix2 (0 : Fin 1) l) (fun c hc => by
      match c with
      | ⟨0, _⟩ => exact absurd rfl hc
      | ⟨1, _⟩ => rfl)
  exact h

/-- A row of one parity of a pair. -/
theorem parityRow_apply (p : Fin 2) (raw : Vec Ideal S1x2x256 .bf16) (l : Fin 256) :
    shapeCast S1x256 (rowsOfParity p S1x1x256 raw Gen.bitcasts_S1x2x256_w16_S1x1x256_w32) Gen.shapeCasts_S1x1x256_S1x256 (ix2 (0 : Fin 1) l)
      = raw (ix3 (0 : Fin 1) p l) := by
  rw [shapeCast_apply _ _ _ (ix3 (0 : Fin 1) (0 : Fin 1) l) (by
    rw [Shape.rowMajor_val_two, Shape.rowMajor_val_three]; rfl)]
  unfold rowsOfParity
  refine congrArg raw (funext fun c => ?_)
  match c with
  | ⟨0, _⟩ => rfl
  | ⟨1, _⟩ => exact Fin.ext (Nat.zero_add _)
  | ⟨2, _⟩ => rfl

/-- A pair of equal scale rows spread over 32 rows. -/
theorem pairRows_apply (raw : Vec Ideal S1x2x256 .bf16) (l : Fin 256) (h : raw (ix3 (0 : Fin 1) (1 : Fin 2) l) = raw (ix3 (0 : Fin 1) (0 : Fin 2) l))
    (r : Fin 32) : pairRows (F := Ideal) raw (ix2 r l) = raw (ix3 (0 : Fin 1) (0 : Fin 2) l) := by
  have hr := r.isLt
  have e0 := (sixteen_apply (shapeCast S1x256 (rowsOfParity 0 S1x1x256 raw Gen.bitcasts_S1x2x256_w16_S1x1x256_w32) Gen.shapeCasts_S1x1x256_S1x256)
    ⟨r.val / 2, by omega⟩ l).trans (parityRow_apply 0 raw l)
  have e1 := (sixteen_apply (shapeCast S1x256 (rowsOfParity 1 S1x1x256 raw Gen.bitcasts_S1x2x256_w16_S1x1x256_w32) Gen.shapeCasts_S1x1x256_S1x256)
    ⟨r.val / 2, by omega⟩ l).trans ((parityRow_apply 1 raw l).trans h)
  unfold pairRows interleaveRows
  dsimp only
  split
  · refine Eq.trans (congrArg _ (funext fun c => ?_)) e0
    match c with
    | ⟨0, _⟩ => rfl
    | ⟨1, _⟩ => rfl
  · refine Eq.trans (congrArg _ (funext fun c => ?_)) e1
    match c with
    | ⟨0, _⟩ => rfl
    | ⟨1, _⟩ => rfl

/-- The scales of a tile's 64 rows: the first pair's over the first 32, the second pair's over the rest. -/
theorem scales_apply (ra rb : Vec Ideal S1x2x256 .bf16) (l : Fin 256)
    (ha : ra (ix3 (0 : Fin 1) (1 : Fin 2) l) = ra (ix3 (0 : Fin 1) (0 : Fin 2) l))
    (hb : rb (ix3 (0 : Fin 1) (1 : Fin 2) l) = rb (ix3 (0 : Fin 1) (0 : Fin 2) l)) (r : Fin 64) :
    scales (F := Ideal) ra rb (ix2 r l)
      = if r.val < 32 then ra (ix3 (0 : Fin 1) (0 : Fin 2) l) else rb (ix3 (0 : Fin 1) (0 : Fin 2) l) := by
  have hr := r.isLt
  unfold scales
  by_cases h : r.val < 32
  · rw [if_pos h, ← pairRows_apply ra l ha ⟨r.val, h⟩]
    refine concatenate_apply_piece (t := S64x256) 0 _ _ (ix2 r l) 0 (by show 0 < 2; omega) S32x256 (pairRows ra) rfl rfl 0 rfl (ix2 (⟨r.val, h⟩ : Fin 32) l) (fun c hc => ?_) (Nat.zero_add _)
    match c with
    | ⟨0, _⟩ => exact absurd rfl hc
    | ⟨1, _⟩ => rfl
  · rw [if_neg h, ← pairRows_apply rb l hb ⟨r.val - 32, by omega⟩]
    refine concatenate_apply_piece (t := S64x256) 0 _ _ (ix2 r l) 1 (by show 1 < 2; omega) S32x256 (pairRows rb) rfl rfl 32 rfl (ix2 (⟨r.val - 32, by omega⟩ : Fin 32) l) (fun c hc => ?_) (by show 32 + (r.val - 32) = r.val; omega)
    match c with
    | ⟨0, _⟩ => exact absurd rfl hc
    | ⟨1, _⟩ => rfl

/-- The four words of the weights, by position. -/
def word (c0 c1 w : IVec S8x256 32) : Fin 4 → IVec S8x256 32 := ![word0 c0 w, word1 c0 c1 w, word2 c0 c1 w, word3 c1 w]

/-- Each word's field is the code picked at its position. -/
theorem field_word (c0 c1 w : IVec S8x256 32) (i : S8x256.Idx) (j : Fin 8) (h : Ordered (field (w i) j)) (p : Fin 4) :
    field (word c0 c1 w p i) j = pick (field (c0 i) j) (field (c1 i) j) (field (w i) j) p := by
  match p with
  | ⟨0, _⟩ => exact field_word0 c0 c1 w i j h
  | ⟨1, _⟩ => exact field_word1 c0 c1 w i j h
  | ⟨2, _⟩ => exact field_word2 c0 c1 w i j h
  | ⟨3, _⟩ => exact field_word3 c0 c1 w i j h

/-- A tile's entry in row `64 p + r`: the weight of row `r` of codes at position `p`, times its scale. -/
theorem tile_apply (wv : Vec Ideal S64x256 .i8) (wi : Vec Ideal S32x256 .i8) (ra rb : Vec Ideal S1x2x256 .bf16) (p : Fin 4)
    (r : Fin 64) (l : Fin 256) (hq : Ordered (posHalf (wi (ix2 (⟨r.val / 2, by omega⟩ : Fin 32) l)) (r.val % 2))) :
    tile (F := Ideal) wv wi ra rb (ix2 (⟨64 * p.val + r.val, by omega⟩ : Fin 256) l)
      = (((byteWeight (wv (ix2 r l)) (posHalf (wi (ix2 (⟨r.val / 2, by omega⟩ : Fin 32) l)) (r.val % 2)) p : ℤ) : ℝ) : EReal)
        * scales (F := Ideal) ra rb (ix2 r l) := by
  have hp := p.isLt
  have hr := r.isLt
  obtain ⟨a, j, rfl⟩ : ∃ a j : Fin 8, r = rowOf a j :=
    ⟨⟨r.val / 8, by omega⟩, ⟨r.val % 8, by omega⟩, Fin.ext (by show r.val = 8 * (r.val / 8) + r.val % 8; omega)⟩
  have hj := j.isLt
  have epos : (⟨(rowOf a j).val / 2, by omega⟩ : Fin 32) = posRow a j := Fin.ext (by show (8 * a.val + j.val) / 2 = 4 * a.val + j.val / 2; omega)
  have emod : (rowOf a j).val % 2 = j.val % 2 := by show (8 * a.val + j.val) % 2 = j.val % 2; omega
  rw [epos, emod] at hq ⊢
  rw [← field_posWord] at hq ⊢
  have h1 : tile (F := Ideal) wv wi ra rb (ix2 (⟨64 * p.val + (rowOf a j).val, by omega⟩ : Fin 256) l)
      = unpack (F := Ideal) (word (pack wv) (pack (highHalves wv)) (posWord wi) p) (scales ra rb) (ix2 (rowOf a j) l) := by
    have h := concatenate_ofFn_apply (t := S256x256) (s₁ := S64x256) 0 (N := 4)
      (fun p => unpack (F := Ideal) (word (pack wv) (pack (highHalves wv)) (posWord wi) p) (scales ra rb))
      Gen.concatenates_S64x256_S64x256_S64x256_S64x256_S256x256_d0 rfl 64 rfl
      (ix2 (⟨64 * p.val + (rowOf a j).val, by omega⟩ : Fin 256) l) p
      (by show (64 * p.val + (rowOf a j).val) / 64 = p.val; omega)
      (ix2 (rowOf a j) l) (by show (rowOf a j).val = (64 * p.val + (rowOf a j).val) % 64; omega)
      (fun c hc => by
        match c with
        | ⟨0, _⟩ => exact absurd rfl hc
        | ⟨1, _⟩ => rfl)
    exact h
  rw [h1, unpack_apply, field_word _ _ _ _ _ hq, field_pack, field_pack, highHalves_setWidth, toInt_pick]
  rfl

/-- The product of the inputs with a tile, at an index. -/
theorem step_apply (acc : FVec Ideal S16x256 .f32) (xt : Vec Ideal S16x256 .bf16) (wv : Vec Ideal S64x256 .i8) (wi : Vec Ideal S32x256 .i8)
    (ra rb : Vec Ideal S1x2x256 .bf16) (b : Fin 16) (l : Fin 256) :
    step (F := Ideal) acc xt wv wi ra rb (ix2 b l)
      = acc (ix2 b l) + ∑ i : Fin 256, xt (ix2 b i) * tile (F := Ideal) wv wi ra rb (ix2 i l) := by
  unfold step
  rw [ValueIdx.addf_apply]
  refine congrArg (acc (ix2 b l) + ·) ?_
  refine (Ideal.matmul_constant_zero_apply dot_S16x256_S256x256_S16x256_1_0_0_1_n_n none _ _ _).trans ?_
  refine (Equiv.sum_comp (ValueIdx.contrEquiv1 dot_S16x256_S256x256_S16x256_1_0_0_1_n_n 256 rfl rfl).symm _).symm.trans
    (Finset.sum_congr rfl fun i _ => ?_)
  rw [shapeCast_self]
  refine congrArg₂ (fun u v => xt u * tile (F := Ideal) wv wi ra rb v) (funext fun c => ?_) (funext fun c => ?_)
  · match c with
    | ⟨0, _⟩ => rfl
    | ⟨1, _⟩ => rfl
  · match c with
    | ⟨0, _⟩ => rfl
    | ⟨1, _⟩ => rfl

/-- The sum after `k` steps, at an index. -/
theorem sumTo_apply (xt : Fin 20 → Vec Ideal S16x256 .bf16) (wv : Fin 20 → Vec Ideal S64x256 .i8) (wi : Fin 20 → Vec Ideal S32x256 .i8)
    (ra rb : Fin 20 → Vec Ideal S1x2x256 .bf16) (b : Fin 16) (l : Fin 256) : ∀ (k : ℕ) (h : k ≤ 20),
    sumTo (F := Ideal) xt wv wi ra rb k h (ix2 b l)
      = ∑ s : Fin k, ∑ i : Fin 256, xt (s.castLE h) (ix2 b i) * tile (F := Ideal) (wv (s.castLE h)) (wi (s.castLE h)) (ra (s.castLE h)) (rb (s.castLE h)) (ix2 i l)
  | 0, _ => by
    rw [Finset.univ_eq_empty, Finset.sum_empty]
    exact Ideal.ofBits_zero_f32
  | k + 1, h => by
    rw [Fin.sum_univ_castSucc]
    exact (step_apply _ _ _ _ _ _ b l).trans (congrArg₂ (· + ·) (sumTo_apply xt wv wi ra rb b l k (Nat.le_of_lt h)) rfl)

/-- What is stored for a column group, at an index: the inputs' products with the twenty tiles, added up. -/
theorem result_apply (xt : Fin 20 → Vec Ideal S16x256 .bf16) (wv : Fin 20 → Vec Ideal S64x256 .i8) (wi : Fin 20 → Vec Ideal S32x256 .i8)
    (ra rb : Fin 20 → Vec Ideal S1x2x256 .bf16) (b : Fin 2) (l : Fin 256) :
    result (F := Ideal) xt wv wi ra rb (ix2 b l)
      = ∑ k : Fin 20, ∑ i : Fin 256, xt k (ix2 (⟨b.val, by omega⟩ : Fin 16) i) * tile (F := Ideal) (wv k) (wi k) (ra k) (rb k) (ix2 i l) := by
  unfold result
  rw [ValueIdx.truncf_apply, extractStridedSlice_apply _ _ _ _ (ix2 (⟨b.val, by omega⟩ : Fin 16) l) (fun c => by
    match c with
    | ⟨0, _⟩ => exact (Nat.zero_add _).symm
    | ⟨1, _⟩ => exact (Nat.zero_add _).symm)]
  exact sumTo_apply xt wv wi ra rb _ l 20 (Nat.le_refl 20)

/-- A sum over a tile's 256 rows is one over the four positions and the 64 rows of each. -/
theorem sum_rows (f : Fin 256 → EReal) :
    ∑ i : Fin 256, f i = ∑ p : Fin 4, ∑ r : Fin 64, f ⟨64 * p.val + r.val, by omega⟩ := by
  rw [← Fintype.sum_prod_type', ← (finProdFinEquiv (m := 4) (n := 64)).sum_comp]
  refine Finset.sum_congr rfl fun x _ => congrArg f (Fin.ext ?_)
  show x.2.val + 64 * x.1.val = 64 * x.1.val + x.2.val
  omega

end Cert.KernelIdeal.Tile

end
-- ==== Proof.BlockAt.lean ====
/- What the body leaves in the result's block at one grid point, at an index, from the blocks it reads. -/
module

public import proofs.«01_k».proof.Proof.Pieces
public import proofs.«01_k».proof.Proof.TileAt
public import Idealize.ShloMosaic.Lib.Pipeline.ValueKit.Tiles

@[expose] public section

set_option maxRecDepth 16384

noncomputable section

namespace Cert.KernelIdeal.BlockAt

open Cert.KernelIdeal Cert.KernelIdeal.Gen Cert.KernelIdeal.Pieces Cert.Bits Idealize.ShloMosaic Idealize.ShloMosaic.TcCoe Idealize.SL.Sem
open Idealize.ShloMosaic.ValueIdx (ix2 ix3)

/-- A load of a rectangle of a whole buffer reads the buffer's contents at the rectangle's offset. -/
theorem load_apply {S : Shape} {e : EltTy} (M : Memref sig .tc .vmem S e) (h : M.IsWhole) (X : Vec Ideal S e) (off size : Fin S.rank → ℕ)
    (inb : ∀ a, off a + size a ≤ S.size a) (x : (Rect.unit off size inb).shape.Idx) (i : S.Idx) (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

/-- Rows of one parity, each twice, at an index. -/
theorem doubled_apply (p : Fin 2) (s : Vec Ideal S40x1024 .bf16) (k : Fin 20) (e : Fin 2) (l : Fin 1024) :
    doubled (F := Ideal) p s (ix3 k e l) = s (ix2 (⟨2 * k.val + p.val, by omega⟩ : Fin 40) l) := by
  have h : ∀ (j : S20x1x1024.Idx), (j 0).val = k.val → (j 2).val = l.val →
      shapeCast S20x1x1024 (rowsOfParity p S20x1024 s bitcasts_S40x1024_w16_S20x1024_w32) shapeCasts_S20x1024_S20x1x1024 j
        = s (ix2 (⟨2 * k.val + p.val, by omega⟩ : Fin 40) l) := fun j h0 h2 => by
    have h1 : (j 1).val < 1 := (j 1).isLt
    rw [shapeCast_apply _ _ j (ix2 k l) (by
      rw [Shape.rowMajor_val_two, Shape.rowMajor_val_three]
      show k.val * 1024 + l.val = ((j 0).val * 1 + (j 1).val) * 1024 + (j 2).val
      omega)]
    unfold rowsOfParity
    refine congrArg s (funext fun c => ?_)
    match c with
    | ⟨0, _⟩ => rfl
    | ⟨1, _⟩ => rfl
  unfold doubled interleaveRows
  dsimp only
  split
  · exact h _ rfl rfl
  · exact h _ rfl rfl

/-- A load of a pair of rows from a scratch buffer that holds the doubled scales. -/
theorem pair_apply (M : Memref sig .tc .vmem S20x2x1024 .bf16) (p : Fin 2) (s : Vec Ideal S40x1024 .bf16) (n : Fin 4) (k : Fin 20) (e : Fin 2) (l : Fin 256) :
    M.view.readCov [⟨Rect.unit (s := S20x2x1024) ![0, 0, 0] S20x2x1024.size inb_S20x2x1024_S20x2x1024_0_0_0, doubled (F := Ideal) p s⟩]
        (rectS n k).toLoadRect (ix3 (0 : Fin 1) e l)
      = s (ix2 (⟨2 * k.val + p.val, by omega⟩ : Fin 40) (⟨256 * n.val + l.val, by omega⟩ : Fin 1024)) := by
  have hz : (![0, 0, 0] : Fin 3 → ℕ) = fun _ => 0 := by decide
  rw [View.readCov_eq_canon_ld _ _ _ (fun y => ⟨_, List.mem_singleton_self _, View.mem_set_unit_zero hz inb_S20x2x1024_S20x2x1024_0_0_0 y⟩), View.canon_unit_zero hz]
  refine (View.ld_unit_apply_of _ _ _ _ _ (ix3 k e (⟨256 * n.val + l.val, by omega⟩ : Fin 1024)) fun a => ?_).trans (doubled_apply p s k e _)
  match a with
  | ⟨0, _⟩ => rfl
  | ⟨1, _⟩ => exact (Nat.zero_add _).symm
  | ⟨2, _⟩ => rfl

/-- The scales' block, loaded whole. -/
theorem loadScales (M : Memref sig .tc .vmem S40x1024 .bf16) (h : M.IsWhole) (s : Vec Ideal S40x1024 .bf16) :
    View.readAt (Elt Ideal) M.view (Rect.unit (s := S40x1024) ![0, 0] S40x1024.size inb_S40x1024_S40x1024_0_0).toLoadRect (h.unread s) = s := by
  rw [View.readAt_eq_ld, h.read_unread]
  exact View.ld_unit_zero (by decide) _ s

/-- The weight at position `p` of group `g` and column `l` of the blocks. -/
def weightOf (x1 : Vec Ideal S1280x1024 .i8) (x2 : Vec Ideal S640x1024 .i8) (x3 : Vec Ideal S40x1024 .bf16) (g : Fin 1280) (p : Fin 4) (l : Fin 1024) : EReal :=
  ((byteWeight (x1 (ix2 g l)) (posHalf (x2 (ix2 (⟨g.val / 2, by omega⟩ : Fin 640) l)) (g.val % 2)) p : ℤ) : ℝ)
    * x3 (ix2 (⟨g.val / 32, by omega⟩ : Fin 40) l)

/-- What the block of the result holds at row `b` and column `l`. -/
def blockTotal (x0 : Vec Ideal S16x5120 .bf16) (x1 : Vec Ideal S1280x1024 .i8) (x2 : Vec Ideal S640x1024 .i8) (x3 : Vec Ideal S40x1024 .bf16)
    (b : Fin 2) (l : Fin 1024) : EReal :=
  ∑ k : Fin 20, ∑ p : Fin 4, ∑ r : Fin 64,
    x0 (ix2 (⟨b.val, by omega⟩ : Fin 16) (⟨256 * k.val + (64 * p.val + r.val), by omega⟩ : Fin 5120))
      * weightOf x1 x2 x3 ⟨64 * k.val + r.val, by omega⟩ p l

/-- Every group's two positions in the block are in order. -/
def BlockOrdered (x2 : Vec Ideal S640x1024 .i8) : Prop :=
  ∀ (t : Fin 640) (l : Fin 1024) (e : Fin 2), Ordered (posHalf (x2 (ix2 t l)) e.val)

section
variable (arg1 : Memref sig .tc .vmem S16x5120 .bf16) (harg1 : arg1.IsWhole) (arg2 : Memref sig .tc .vmem S1280x1024 .i8) (harg2 : arg2.IsWhole) (arg3 : Memref sig .tc .vmem S640x1024 .i8) (harg3 : arg3.IsWhole) (arg4 : Memref sig .tc .vmem S40x1024 .bf16) (harg4 : arg4.IsWhole) (arg6 : Memref sig .tc .vmem S20x2x1024 .bf16) (arg7 : Memref sig .tc .vmem S20x2x1024 .bf16)
    (x0 : Vec Ideal S16x5120 .bf16) (x1 : Vec Ideal S1280x1024 .i8) (x2 : Vec Ideal S640x1024 .i8) (x3 : Vec Ideal S40x1024 .bf16)

/-- What a column group stores is its columns of `blockTotal`. -/
theorem stored_apply (hq : BlockOrdered x2) (n : Fin 4) (b : Fin 2) (l : Fin 256) :
    stored (F := Ideal) arg1 harg1 arg2 harg2 arg3 harg3 arg4 harg4 arg6 arg7 x0 x1 x2 x3 n (ix2 b l)
      = blockTotal x0 x1 x2 x3 b ⟨256 * n.val + l.val, by omega⟩ := by
  unfold stored blockTotal
  refine (Tile.result_apply _ _ _ _ _ b l).trans (Finset.sum_congr rfl fun k _ => ?_)
  rw [Tile.sum_rows]
  refine Finset.sum_congr rfl fun p _ => Finset.sum_congr rfl fun r _ => congrArg₂ (fun u v : EReal => u * v) ?_ ?_
  · refine load_apply arg1 harg1 x0 _ _ _ _ _ fun a => ?_
    match a with
    | ⟨0, _⟩ => exact (Nat.zero_add _).symm
    | ⟨1, _⟩ => rfl
  · have hV : View.readAt (Elt Ideal) arg2.view (rectV n k).toLoadRect (harg2.unread x1) (ix2 r l)
        = x1 (ix2 (⟨64 * k.val + r.val, by omega⟩ : Fin 1280) (⟨256 * n.val + l.val, by omega⟩ : Fin 1024)) :=
      load_apply arg2 harg2 x1 _ _ _ _ _ fun a => by
        match a with
        | ⟨0, _⟩ => rfl
        | ⟨1, _⟩ => rfl
    have hI : View.readAt (Elt Ideal) arg3.view (rectI n k).toLoadRect (harg3.unread x2) (ix2 (⟨r.val / 2, by omega⟩ : Fin 32) l)
        = x2 (ix2 (⟨(64 * k.val + r.val) / 2, by omega⟩ : Fin 640) (⟨256 * n.val + l.val, by omega⟩ : Fin 1024)) :=
      load_apply arg3 harg3 x2 _ _ _ _ _ fun a => by
        match a with
        | ⟨0, _⟩ => show (64 * k.val + r.val) / 2 = 32 * k.val + r.val / 2; omega
        | ⟨1, _⟩ => rfl
    have hr : (64 * k.val + r.val) % 2 = r.val % 2 := by omega
    have h6 := fun e : Fin 2 => (pair_apply arg6 0 _ n k e l).trans (congrFun (loadScales arg4 harg4 x3) _)
    have h7 := fun e : Fin 2 => (pair_apply arg7 1 _ n k e l).trans (congrFun (loadScales arg4 harg4 x3) _)
    have hs := (Tile.scales_apply _ _ l ((h6 1).trans (h6 0).symm) ((h7 1).trans (h7 0).symm) r).trans
      (congrArg₂ (fun u v : EReal => if r.val < 32 then u else v) (h6 0) (h7 0))
    have ho := (congrArg (fun w : BitVec 8 => Ordered (posHalf w (r.val % 2))) hI).mpr (hq _ _ ⟨r.val % 2, by omega⟩)
    refine ((Tile.tile_apply _ _ _ _ p r l ho).trans (congrArg₂ (fun u v : EReal => u * v)
      (congrArg₂ (fun (v w : BitVec 8) => (((byteWeight v (posHalf w (r.val % 2)) p : ℤ) : ℝ) : EReal)) hV hI) hs)).trans ?_
    unfold weightOf
    dsimp only
    rw [hr]
    refine congrArg (_ * ·) ?_
    split
    · exact congrArg x3 (congrArg (fun q : Fin 40 => ix2 q _) (Fin.ext (by show 2 * k.val + 0 = (64 * k.val + r.val) / 32; omega)))
    · exact congrArg x3 (congrArg (fun q : Fin 40 => ix2 q _) (Fin.ext (by show 2 * k.val + 1 = (64 * k.val + r.val) / 32; omega)))

/-- Where a column group's rectangle puts an index. -/
theorem rectO_emb (n : Fin 4) (x : S2x256.Idx) (a : Fin 2) : ((rectO n).emb x a : ℕ) = ![0, 256 * n.val] a + x a :=
  Rect.idx_unit_val (s := S2x1024) ![0, 256 * n.val] S2x256.size (Fin.forall_fin_two.mpr
    ⟨Nat.le_refl 2, (by have := n.isLt; show 256 * n.val + 256 ≤ 1024; omega)⟩) x a

/-- The four column groups make up `blockTotal`. -/
theorem out_apply (hq : BlockOrdered x2) (c : Dev nD) (i : grid0.Coords) (arg5 : Memref sig .tc .vmem S2x1024 .bf16) (harg5 : arg5.IsWhole) (harg6 : arg6.IsWhole) (harg7 : arg7.IsWhole) (y : S2x1024.Idx) :
    out0_A_4 (F := Ideal) c i arg1 harg1 arg2 harg2 arg3 harg3 arg4 harg4 arg5 harg5 arg6 harg6 arg7 harg7 x0 x1 x2 x3 y
      = blockTotal x0 x1 x2 x3 (y 0) (y 1) := by
  have hc := cover0_A_4 (F := Ideal) c i arg1 harg1 arg2 harg2 arg3 harg3 arg4 harg4 arg5 harg5 arg6 harg6 arg7 harg7 x0 x1 x2 x3
  unfold out0_A_4
  rw [View.read_writes_eq_canon _ _ _ hc]
  refine View.canon_apply_of_pieces (fun y : S2x1024.Idx => blockTotal x0 x1 x2 x3 (y 0) (y 1)) _ ?_ y (hc y)
  rw [run_pieces]
  have key : ∀ (n : Fin 4) (x : S2x256.Idx), stored (F := Ideal) arg1 harg1 arg2 harg2 arg3 harg3 arg4 harg4 arg6 arg7 x0 x1 x2 x3 n x
      = blockTotal x0 x1 x2 x3 ((rectO n).emb x 0) ((rectO n).emb x 1) := fun n x => by
    have hx : x = ix2 (x 0) (x 1) := funext fun a => by
      match a with
      | ⟨0, _⟩ => rfl
      | ⟨1, _⟩ => rfl
    rw [hx]
    refine (stored_apply _ _ _ _ _ _ _ _ _ _ _ _ _ _ hq n (x 0) (x 1)).trans (congrArg₂ (blockTotal x0 x1 x2 x3) (Fin.ext ?_) (Fin.ext ?_))
    · exact ((rectO_emb n (ix2 (x 0) (x 1)) 0).trans (Nat.zero_add _)).symm
    · exact (rectO_emb n (ix2 (x 0) (x 1)) 1).symm
  intro pc hpc x
  simp only [List.mem_cons, List.not_mem_nil, or_false] at hpc
  rcases hpc with rfl | rfl | rfl | rfl
  · exact key 3 x
  · exact key 2 x
  · exact key 1 x
  · exact key 0 x

end

end Cert.KernelIdeal.BlockAt

end
-- ==== Proof.Spec.lean ====
/- The product both programs compute, written as one sum over the arrays' entries. -/
module

public import proofs.«01_k».proof.Proof.Bits
public import Idealize.ShloMosaic.Lib.Pipeline.Value
public import Idealize.ShloMosaic.PureOps.Ideal.Laws

@[expose] public section

noncomputable section

namespace Cert.Spec

open Cert.Bits Idealize.ShloMosaic
open Idealize.ShloMosaic.ValueIdx (ix2 ix3)

/-- The activations. -/
abbrev Inputs : Type := FVec Ideal ⟨3, ![2, 1, 5120]⟩ .bf16

/-- The codes, two to a byte: the byte of group `g` and output column `n`. -/
abbrev Codes : Type := IVec ⟨2, ![1280, 27648]⟩ 8

/-- The positions, four to a byte: the byte of two neighbouring groups and an output column. -/
abbrev Positions : Type := IVec ⟨2, ![640, 27648]⟩ 8

/-- The scales: one for every 32 groups and output column. -/
abbrev Scales : Type := FVec Ideal ⟨2, ![40, 27648]⟩ .bf16

/-- The two positions of group `g` of four inputs, for output column `n`. -/
def posAt (q : Positions) (g : Fin 1280) (n : Fin 27648) : BitVec 4 :=
  posHalf (q (ix2 (⟨g.val / 2, by omega⟩ : Fin 640) n)) (g.val % 2)

/-- The weight of output column `n` at position `p` of group `g`: its integer times its scale. -/
def weightAt (v : Codes) (q : Positions) (s : Scales) (g : Fin 1280) (p : Fin 4) (n : Fin 27648) : EReal :=
  ((byteWeight (v (ix2 g n)) (posAt q g n) p : ℤ) : ℝ) * s (ix2 (⟨g.val / 32, by omega⟩ : Fin 40) n)

/-- Row `b` of the activations at position `p` of group `g`. -/
def inputAt (x : Inputs) (b : Fin 2) (g : Fin 1280) (p : Fin 4) : EReal :=
  x (ix3 b (0 : Fin 1) (⟨4 * g.val + p.val, by omega⟩ : Fin 5120))

/-- The result at row `b` and column `n`: every input times its weight, added up. -/
def total (x : Inputs) (v : Codes) (q : Positions) (s : Scales) (b : Fin 2) (n : Fin 27648) : EReal :=
  ∑ g : Fin 1280, ∑ p : Fin 4, inputAt x b g p * weightAt v q s g p n

/-- A sum over the 1280 groups, 64 at a time. -/
theorem sum_groups (f : Fin 1280 → EReal) :
    ∑ g : Fin 1280, f g = ∑ k : Fin 20, ∑ r : Fin 64, f ⟨64 * k.val + r.val, by omega⟩ := by
  rw [← Fintype.sum_prod_type', ← (finProdFinEquiv (m := 20) (n := 64)).sum_comp]
  refine Finset.sum_congr rfl fun x _ => congrArg f (Fin.ext ?_)
  show x.2.val + 64 * x.1.val = 64 * x.1.val + x.2.val
  omega

/-- A sum over the 1280 groups, the even ones and the odd ones apart. -/
theorem sum_halves (f : Fin 1280 → EReal) :
    ∑ g : Fin 1280, f g = ∑ h : Fin 2, ∑ t : Fin 640, f ⟨2 * t.val + h.val, by omega⟩ := by
  rw [Finset.sum_comm, ← Fintype.sum_prod_type', ← (finProdFinEquiv (m := 640) (n := 2)).sum_comp]
  refine Finset.sum_congr rfl fun x _ => congrArg f (Fin.ext ?_)
  show x.2.val + 2 * x.1.val = 2 * x.1.val + x.2.val
  omega

/-- The result, tile by tile: 20 tiles of 4 positions of 64 groups. -/
theorem total_tiles (x : Inputs) (v : Codes) (q : Positions) (s : Scales) (b : Fin 2) (n : Fin 27648) :
    total x v q s b n = ∑ k : Fin 20, ∑ p : Fin 4, ∑ r : Fin 64,
      inputAt x b ⟨64 * k.val + r.val, by omega⟩ p * weightAt v q s ⟨64 * k.val + r.val, by omega⟩ p n := by
  unfold total
  rw [sum_groups]
  exact Finset.sum_congr rfl fun k _ => Finset.sum_comm

/-- The result as eight products, one for each parity of the group and each position. -/
theorem total_halves (x : Inputs) (v : Codes) (q : Positions) (s : Scales) (b : Fin 2) (n : Fin 27648) :
    total x v q s b n = ∑ h : Fin 2, ∑ p : Fin 4, ∑ t : Fin 640,
      inputAt x b ⟨2 * t.val + h.val, by omega⟩ p * weightAt v q s ⟨2 * t.val + h.val, by omega⟩ p n := by
  unfold total
  rw [sum_halves]
  exact Finset.sum_congr rfl fun k _ => Finset.sum_comm

end Cert.Spec

end
-- ==== Proof.Arrays.lean ====
/- The blocks of the arrays the kernel reads, and the array of results it leaves. -/
module

public import proofs.«01_k».proof.Proof.BlockAt
public import proofs.«01_k».proof.Proof.Spec
public import Idealize.ShloMosaic.Lib.Pipeline.ValueKit
public import Idealize.ShloMosaic.Lib.KernelVsHost

@[expose] public section

set_option maxRecDepth 16384

noncomputable section

namespace Cert.KernelIdeal.Arrays

open Cert.KernelIdeal Cert.KernelIdeal.Gen Cert.KernelIdeal.BlockAt Cert.Bits Cert.Spec Idealize.ShloMosaic.TcCoe Idealize.SL.Sem
open Idealize.ShloMosaic hiding ix2 ix3 ix4
open Idealize.ShloMosaic.Pipeline Idealize.ShloMosaic.Tactic
open Idealize.ShloMosaic.ValueIdx (ix2 ix3 ix4)

variable (m : (ℓ : Loc nD τ sig) → Buf (Elt Ideal) ℓ) (c : Dev nD)

/-- Where each window's block sits: the first is the whole array, the others are 1024 columns apart. -/
theorem index0 : ∀ t : Fin cfg0.N, win0_0.index t = ![0, 0] := (by decide +kernel : ∀ t : Fin grid0.N, win0_0.index t = ![0, 0])

/-- The block of codes a grid point reads. -/
theorem index1 : ∀ t : Fin cfg0.N, win0_1.index t = ![0, t.val] := (by decide +kernel : ∀ t : Fin grid0.N, win0_1.index t = ![0, t.val])

/-- The block of positions a grid point reads. -/
theorem index2 : ∀ t : Fin cfg0.N, win0_2.index t = ![0, t.val] := (by decide +kernel : ∀ t : Fin grid0.N, win0_2.index t = ![0, t.val])

/-- The block of scales a grid point reads. -/
theorem index3 : ∀ t : Fin cfg0.N, win0_3.index t = ![0, t.val] := (by decide +kernel : ∀ t : Fin grid0.N, win0_3.index t = ![0, t.val])

/-- The block of the result a grid point writes. -/
theorem index4 : ∀ t : Fin cfg0.N, win0_4.index t = ![0, t.val] := (by decide +kernel : ∀ t : Fin grid0.N, win0_4.index t = ![0, t.val])

/-- Column `l` of block `t`, in the array. -/
def column (t : Fin cfg0.N) (l : Fin 1024) : Fin 27648 :=
  ⟨t.val * 1024 + l.val, by have h : t.val < 27 := t.isLt; omega⟩

/-- The codes of block `t`. -/
theorem codes_apply (t : Fin cfg0.N) (g : Fin 1280) (l : Fin 1024) :
    (iblk m c 1 t : Vec Ideal S1280x1024 .i8) (ix2 g l) = m ((c : Thread nD τ).loc main_arg1) (ix2 g (column t l)) := by
  rw [← V_main_arg1 m c]
  blk_simp [iblk]
  refine congrArg (V m c main_arg1) (funext fun a => Fin.ext ?_)
  match a with
  | ⟨0, _⟩ => blk_simp [index1 t]
  | ⟨1, _⟩ => blk_simp [index1 t]; simp [column]

/-- The positions of block `t`. -/
theorem positions_apply (t : Fin cfg0.N) (g : Fin 640) (l : Fin 1024) :
    (iblk m c 2 t : Vec Ideal S640x1024 .i8) (ix2 g l) = m ((c : Thread nD τ).loc main_arg2) (ix2 g (column t l)) := by
  rw [← V_main_arg2 m c]
  blk_simp [iblk]
  refine congrArg (V m c main_arg2) (funext fun a => Fin.ext ?_)
  match a with
  | ⟨0, _⟩ => blk_simp [index2 t]
  | ⟨1, _⟩ => blk_simp [index2 t]; simp [column]

/-- The scales of block `t`. -/
theorem scales_apply (t : Fin cfg0.N) (g : Fin 40) (l : Fin 1024) :
    (iblk m c 3 t : Vec Ideal S40x1024 .bf16) (ix2 g l) = m ((c : Thread nD τ).loc main_arg3) (ix2 g (column t l)) := by
  rw [← V_main_arg3 m c]
  blk_simp [iblk]
  refine congrArg (V m c main_arg3) (funext fun a => Fin.ext ?_)
  match a with
  | ⟨0, _⟩ => blk_simp [index3 t]
  | ⟨1, _⟩ => blk_simp [index3 t]; simp [column]

/-- The activations as the kernel gets them: in each tile of 256 the positions outermost, and padded to 16 rows. -/
def permuted : Vec Ideal S16x5120 .bf16 :=
  pad S16x5120 ![0, 0] ![14, 0] ![0, 0]
    (shapeCast S2x5120 (transpose S2x20x4x64 [0, 1, 3, 2]
      (shapeCast S2x20x64x4 (m ((c : Thread nD τ).loc main_arg0) : Vec Ideal S2x1x5120 .bf16) shapeCasts_S2x1x5120_S2x20x64x4)
      transposes_S2x20x64x4_S2x20x4x64_0_1_3_2) shapeCasts_S2x20x4x64_S2x5120)
    (sitofp (F := Ideal) .bf16 (constantI S_ 32 0#32)) pads_S2x5120_S16x5120_0140_000 h_S_

/-- The array the kernel's first window reads is the permuted inputs. -/
theorem V_permuted : V m c main_v3 = permuted m c := by
  dsimp only [V, hostOps0, hostOps0_1, List.flatten_cons, List.flatten_nil, List.append_nil, List.cons_append, List.nil_append]
  after_results
  rfl

/-- The permuted activations at row `b`, step `k`, position `p` and row `r`. -/
theorem permuted_apply (b : Fin 2) (k : Fin 20) (p : Fin 4) (r : Fin 64) :
    permuted m c (ix2 (⟨b.val, by omega⟩ : Fin 16) (⟨256 * k.val + (64 * p.val + r.val), by omega⟩ : Fin 5120))
      = inputAt (m ((c : Thread nD τ).loc main_arg0)) b ⟨64 * k.val + r.val, by omega⟩ p := by
  unfold permuted
  rw [pad_apply_of_inside _ _ _ _ _ _ _ _ (ix2 b (⟨256 * k.val + (64 * p.val + r.val), by omega⟩ : Fin 5120)) (fun a => by
      match a with
      | ⟨0, _⟩ => show b.val = 0 + b.val * (0 + 1); omega
      | ⟨1, _⟩ => show 256 * k.val + (64 * p.val + r.val) = 0 + (256 * k.val + (64 * p.val + r.val)) * (0 + 1); omega),
    shapeCast_apply _ _ _ (ix4 b k p r) (by
      rw [Shape.rowMajor_val_two, Shape.rowMajor_val_four]
      show ((b.val * 20 + k.val) * 4 + p.val) * 64 + r.val = b.val * 5120 + (256 * k.val + (64 * p.val + r.val))
      omega),
    transpose_apply _ _ _ _ (ix4 b k r p) (fun a => by
      match a with
      | ⟨0, _⟩ => rfl
      | ⟨1, _⟩ => rfl
      | ⟨2, _⟩ => rfl
      | ⟨3, _⟩ => rfl),
    shapeCast_apply _ _ _ (ix3 b (0 : Fin 1) (⟨4 * (64 * k.val + r.val) + p.val, by omega⟩ : Fin 5120)) (by
      rw [Shape.rowMajor_val_three, Shape.rowMajor_val_four]
      show (b.val * 1 + 0) * 5120 + (4 * (64 * k.val + r.val) + p.val) = ((b.val * 20 + k.val) * 64 + r.val) * 4 + p.val
      omega)]
  rfl

/-- Where the first window's block, the whole array, puts an index. -/
theorem inputs_apply (t : Fin cfg0.N) (a : Fin 16) (i : Fin 5120) :
    (iblk m c 0 t : Vec Ideal S16x5120 .bf16) (ix2 a i) = permuted m c (ix2 a i) := by
  rw [← V_permuted m c]
  blk_simp [iblk]
  refine congrArg (V m c main_v3) (funext fun d => Fin.ext ?_)
  match d with
  | ⟨0, _⟩ => blk_simp [index0 t]
  | ⟨1, _⟩ => blk_simp [index0 t]

/-- Every group's two positions are in order. -/
def AllOrdered (q : Positions) : Prop := ∀ (t : Fin 640) (n : Fin 27648) (e : Fin 2), Ordered (posHalf (q (ix2 t n)) e.val)

/-- The kernel's array of results: at each row and column, every input times its weight, added up. -/
def results : S2x27648.Idx → EReal := fun j =>
  total (m ((c : Thread nD τ).loc main_arg0)) (m ((c : Thread nD τ).loc main_arg1)) (m ((c : Thread nD τ).loc main_arg2))
    (m ((c : Thread nD τ).loc main_arg3)) (j 0) (j 1)

/-- Block `t`'s sum is the whole arrays' sum at the block's column. -/
theorem blockTotal_eq (t : Fin cfg0.N) (b : Fin 2) (l : Fin 1024) :
    blockTotal (iblk m c 0 t) (iblk m c 1 t) (iblk m c 2 t) (iblk m c 3 t) b l
      = total (m ((c : Thread nD τ).loc main_arg0)) (m ((c : Thread nD τ).loc main_arg1)) (m ((c : Thread nD τ).loc main_arg2))
          (m ((c : Thread nD τ).loc main_arg3)) b (column t l) := by
  rw [total_tiles]
  unfold blockTotal
  refine Finset.sum_congr rfl fun k _ => Finset.sum_congr rfl fun p _ => Finset.sum_congr rfl fun r _ =>
    congrArg₂ (fun u v : EReal => u * v) ((inputs_apply m c t _ _).trans (permuted_apply m c b k p r)) ?_
  unfold weightOf weightAt posAt
  exact congrArg₂ (fun u v : EReal => u * v)
    (congrArg₂ (fun v w : BitVec 8 => (((byteWeight v (posHalf w ((64 * k.val + r.val) % 2)) p : ℤ) : ℝ) : EReal))
      (codes_apply m c t _ l) (positions_apply m c t _ l)) (scales_apply m c t _ l)

/-- The array the kernel leaves. -/
theorem arr_eq (hq : AllOrdered (m ((c : Thread nD τ).loc main_arg2))) : (dats m 0 c).arrAt 4 cfg0.N = results m c := by
  refine (dats m 0 c).arrAt_eq_of_covers 4 _ (by decide +kernel) fun t hf y => ?_
  blk_simp
  rw [after0_4]
  unfold outsAt0
  refine (out_apply _ _ _ _ _ _ _ _ _ _ _ _ _ _ (fun u l e => ?_) _ _ _ _ _ _ y).trans ?_
  · exact (congrArg (fun w : BitVec 8 => Ordered (posHalf w e.val)) (positions_apply m c t u l)).mpr (hq u (column t l) e)
  · refine (blockTotal_eq m c t (y 0) (y 1)).trans ?_
    unfold results
    refine congrArg₂ (total _ _ _ _) (Fin.ext ?_) (Fin.ext ?_)
    · blk_simp [index4 t]
    · blk_simp [index4 t]; simp [column]

end Cert.KernelIdeal.Arrays

end
-- ==== Proof.RefAt.lean ====
/- What the reference computes, at an index: the sum of `Cert.Spec.total`. -/
module

public import proofs.«01_k».proof.Proof.Spec
public import proofs.«01_k».proof.Proof.Gen.ReferenceIdeal.Read

@[expose] public section

set_option maxRecDepth 16384

noncomputable section

namespace Cert.ReferenceIdeal.At

open Cert.ReferenceIdeal Cert.ReferenceIdeal.Read Cert.Bits Cert.Spec Idealize.ShloMosaic
open Idealize.ShloMosaic.ValueIdx (ix2 ix3)

/-- The zero of the format is 0. -/
theorem zero_bf16 : FloatOps.ofBits (F := Ideal) .bf16 0x0000#16 = (0 : EReal) := by
  show Ideal.ofBits .bf16 0x0000#16 = 0
  simp [Ideal.ofBits, Ideal.ieee]

/-- The eight of the format is 8. -/
theorem eight_bf16 : FloatOps.ofBits (F := Ideal) .bf16 0x4100#16 = ((8 : ℝ) : EReal) := by
  show Ideal.ofBits .bf16 0x4100#16 = _
  simp [Ideal.ofBits, Ideal.ieee]
  rw [← EReal.coe_mul]
  norm_num

/-- The low code of a byte, as the reference cuts it out. -/
theorem low_code : ∀ b : BitVec 8, (IntOp.andi (b.setWidth 32) 15#32).toInt = ((b.setWidth 4).toNat : ℤ) := by decide +kernel

/-- The high code of a byte, as the reference cuts it out. -/
theorem high_code : ∀ b : BitVec 8,
    (IntOp.andi (IntOp.shrsi .host (b.setWidth 32) 4#32) 15#32).toInt = (((b >>> 4).setWidth 4).toNat : ℤ) := by decide +kernel

/-- The first position of a half of a byte, as the reference compares it. -/
theorem first_pos : ∀ (b : BitVec 8) (h : Fin 2) (p : Fin 4),
    IntOp.cmpi .eq (IntOp.andi (IntOp.shrsi .host (b.setWidth 32) (BitVec.ofNat 32 (4 * h.val))) 3#32) (BitVec.ofNat 32 p.val)
      = if (posHalf b h.val).toNat % 4 = p.val then 1#1 else 0#1 := by decide +kernel

/-- The second position of a half of a byte, as the reference compares it. -/
theorem second_pos : ∀ (b : BitVec 8) (h : Fin 2) (p : Fin 4),
    IntOp.cmpi .eq (IntOp.andi (IntOp.shrsi .host (b.setWidth 32) (BitVec.ofNat 32 (4 * h.val + 2))) 3#32) (BitVec.ofNat 32 p.val)
      = if (posHalf b h.val).toNat / 4 = p.val then 1#1 else 0#1 := by decide +kernel

/-- A code less eight, over the extended reals. -/
theorem code_sub (z : ℕ) (w : BitVec 32) (e : EReal) (hw : w.toInt = (z : ℤ)) (he : e = ((8 : ℝ) : EReal)) :
    FloatOps.subf (F := Ideal) (φ := .bf16) (FloatOps.sitofp .bf16 w) e = ((((z : ℤ) - 8 : ℤ) : ℝ) : EReal) := by
  show ((w.toInt : ℝ) : EReal) - e = _
  rw [he, hw, ← EReal.coe_sub, Int.cast_sub]
  rfl

/-- The reference's choice by position is the weight's integer times the scale. -/
theorem choose (b : BitVec 8) (h : Fin 2) (p : Fin 4) (c0 c1 : BitVec 4) (s A B Z : EReal) (P0 P1 Q0 Q1 : BitVec 32)
    (hP0 : P0 = IntOp.andi (IntOp.shrsi .host (b.setWidth 32) (BitVec.ofNat 32 (4 * h.val))) 3#32)
    (hP1 : P1 = IntOp.andi (IntOp.shrsi .host (b.setWidth 32) (BitVec.ofNat 32 (4 * h.val + 2))) 3#32)
    (hQ0 : Q0 = BitVec.ofNat 32 p.val) (hQ1 : Q1 = BitVec.ofNat 32 p.val)
    (hA : A = (((c0.toNat : ℤ) - 8 : ℤ) : ℝ) * s) (hB : B = (((c1.toNat : ℤ) - 8 : ℤ) : ℝ) * s) (hZ : Z = 0) :
    Scalar.select (IntOp.cmpi .eq P0 Q0) A (Scalar.select (IntOp.cmpi .eq P1 Q1) B Z)
      = ((weight c0 c1 (posHalf b h.val) p : ℤ) : ℝ) * s := by
  subst hP0 hP1 hQ0 hQ1 hA hB hZ
  rw [first_pos, second_pos]
  unfold weight Scalar.select
  by_cases h0 : (posHalf b h.val).toNat % 4 = p.val
  · simp [h0]
  · by_cases h1 : (posHalf b h.val).toNat / 4 = p.val
    · simp [h0, h1]
    · simp [h0, h1]

variable (x0 : (⟨S2x1x5120, .bf16⟩ : BufTy).Contents (Elt Ideal)) (x1 : (⟨S1280x27648, .i8⟩ : BufTy).Contents (Elt Ideal))
  (x2 : (⟨S640x27648, .i8⟩ : BufTy).Contents (Elt Ideal)) (x3 : (⟨S40x27648, .bf16⟩ : BufTy).Contents (Elt Ideal))

/-- The scale of row `t` of 640: rows of scales repeated sixteen times. -/
theorem scale_apply (i : S640x27648.Idx) (g : Fin 1280) (n : Fin 27648) (hg : (i 0).val = g.val / 2) (hn : (i 1).val = n.val) :
    val_main_v10 (F := Ideal) x3 i = x3 (ix2 (⟨g.val / 32, by omega⟩ : Fin 40) n) := by
  rw [val_main_v10_apply, val_main_v9_apply]
  refine congrArg x3 (funext fun c => Fin.ext ?_)
  match c with
  | ⟨0, _⟩ => show ((i 0).val * 27648 + (i 1).val) / 442368 = g.val / 32; omega
  | ⟨1, _⟩ => show ((i 0).val * 27648 + (i 1).val) % 27648 = n.val; omega

/-- The byte of codes of group `g`. -/
theorem code_apply (i : S640x2x27648.Idx) (g : Fin 1280) (n : Fin 27648) (hg : 2 * (i 0).val + (i 1).val = g.val) (hn : (i 2).val = n.val) :
    val_main_v1 (F := Ideal) x1 i = (x1 (ix2 g n)).setWidth 32 := by
  rw [val_main_v1_apply, val_main_v0_apply]
  refine congrArg (fun j => (x1 j).setWidth 32) (funext fun c => Fin.ext ?_)
  match c with
  | ⟨0, _⟩ => show (((i 0).val * 2 + (i 1).val) * 27648 + (i 2).val) / 27648 = g.val; omega
  | ⟨1, _⟩ => show (((i 0).val * 2 + (i 1).val) * 27648 + (i 2).val) % 27648 = n.val; omega

/-- The first slot's weight of group `g`. -/
theorem slot0_apply (i : S640x2x27648.Idx) (g : Fin 1280) (n : Fin 27648) (hg : 2 * (i 0).val + (i 1).val = g.val) (hn : (i 2).val = n.val) :
    val_main_v16 (F := Ideal) x1 x3 i
      = ((((((x1 (ix2 g n)).setWidth 4 : BitVec 4).toNat : ℤ) - 8 : ℤ) : ℝ) : EReal) * x3 (ix2 (⟨g.val / 32, by omega⟩ : Fin 40) n) := by
  have h1 : (i 1).val < 2 := (i 1).isLt
  rw [val_main_v16_apply]
  refine congrArg₂ (fun a b : EReal => a * b) ?_ ?_
  · rw [val_main_v13_apply, val_main_v11_apply, val_main_v4_apply, code_apply x1 i g n hg hn, val_main_v3_apply, val_main_c_apply]
    exact code_sub _ _ _ (low_code _) (by rw [val_main_v12_apply, val_main_cst_apply]; exact eight_bf16)
  · rw [val_main_v15_apply, val_main_v14_apply]
    exact scale_apply x3 _ g n (by show (i 0).val = g.val / 2; omega) hn

/-- The second slot's weight of group `g`. -/
theorem slot1_apply (i : S640x2x27648.Idx) (g : Fin 1280) (n : Fin 27648) (hg : 2 * (i 0).val + (i 1).val = g.val) (hn : (i 2).val = n.val) :
    val_main_v22 (F := Ideal) x1 x3 i
      = (((((((x1 (ix2 g n)) >>> 4).setWidth 4 : BitVec 4).toNat : ℤ) - 8 : ℤ) : ℝ) : EReal) * x3 (ix2 (⟨g.val / 32, by omega⟩ : Fin 40) n) := by
  have h1 : (i 1).val < 2 := (i 1).isLt
  rw [val_main_v22_apply]
  refine congrArg₂ (fun a b : EReal => a * b) ?_ ?_
  · rw [val_main_v19_apply, val_main_v17_apply, val_main_v8_apply, val_main_v6_apply, code_apply x1 i g n hg hn, val_main_v5_apply,
      val_main_c_0_apply, val_main_v7_apply, val_main_c_1_apply]
    exact code_sub _ _ _ (high_code _) (by rw [val_main_v18_apply, val_main_cst_2_apply]; exact eight_bf16)
  · rw [val_main_v21_apply, val_main_v20_apply]
    exact scale_apply x3 _ g n (by show (i 0).val = g.val / 2; omega) hn

/-- An input of the activations cut into groups of four. -/
theorem input_apply (i : S2x1x640x2x4.Idx) (b : Fin 2) (g : Fin 1280) (p : Fin 4) (hb : (i 0).val = b.val)
    (hg : 2 * (i 2).val + (i 3).val = g.val) (hp : (i 4).val = p.val) :
    val_main_v23 (F := Ideal) x0 i = inputAt x0 b g p := by
  have h1 : (i 1).val < 1 := (i 1).isLt
  rw [val_main_v23_apply]
  refine congrArg x0 (funext fun c => Fin.ext ?_)
  match c with
  | ⟨0, _⟩ => show ((((((i 0).val * 1 + (i 1).val) * 640 + (i 2).val) * 2 + (i 3).val) * 4 + (i 4).val)) / 5120 = b.val; omega
  | ⟨1, _⟩ => rfl
  | ⟨2, _⟩ => show ((((((i 0).val * 1 + (i 1).val) * 640 + (i 2).val) * 2 + (i 3).val) * 4 + (i 4).val)) % 5120 = 4 * g.val + p.val; omega

/-- The group of row `t` of 640 in half `h`. -/
abbrev group (h : Fin 2) (t : Fin 640) : Fin 1280 := ⟨2 * t.val + h.val, by omega⟩

/-- The positions of a group, from its row of bytes and its half. -/
theorem posAt_group (h : Fin 2) (t : Fin 640) (n : Fin 27648) : posAt x2 (group h t) n = posHalf (x2 (ix2 t n)) h.val := by
  unfold posAt
  have h1 : (⟨(group h t).val / 2, by omega⟩ : Fin 640) = t := Fin.ext (by show (2 * t.val + h.val) / 2 = t.val; omega)
  have h2 : (group h t).val % 2 = h.val := by show (2 * t.val + h.val) % 2 = h.val; omega
  rw [h1, h2]

/-- A choice by position in half `h`, from what it chooses between and what it compares, is the weight there. -/
theorem choose_weight (h : Fin 2) (p : Fin 4) (t : Fin 640) (n : Fin 27648) (A B Z : EReal) (P0 P1 Q0 Q1 : BitVec 32)
    (hP0 : P0 = IntOp.andi (IntOp.shrsi .host ((x2 (ix2 t n)).setWidth 32) (BitVec.ofNat 32 (4 * h.val))) 3#32)
    (hP1 : P1 = IntOp.andi (IntOp.shrsi .host ((x2 (ix2 t n)).setWidth 32) (BitVec.ofNat 32 (4 * h.val + 2))) 3#32)
    (hQ0 : Q0 = BitVec.ofNat 32 p.val) (hQ1 : Q1 = BitVec.ofNat 32 p.val)
    (hA : A = ((((((x1 (ix2 (group h t) n)).setWidth 4 : BitVec 4).toNat : ℤ) - 8 : ℤ) : ℝ) : EReal) * x3 (ix2 (⟨(group h t).val / 32, by omega⟩ : Fin 40) n))
    (hB : B = (((((((x1 (ix2 (group h t) n)) >>> 4).setWidth 4 : BitVec 4).toNat : ℤ) - 8 : ℤ) : ℝ) : EReal) * x3 (ix2 (⟨(group h t).val / 32, by omega⟩ : Fin 40) n))
    (hZ : Z = 0) :
    Scalar.select (IntOp.cmpi .eq P0 Q0) A (Scalar.select (IntOp.cmpi .eq P1 Q1) B Z) = weightAt x1 x2 x3 (group h t) p n := by
  unfold weightAt byteWeight
  rw [posAt_group]
  exact choose _ h p _ _ _ A B Z P0 P1 Q0 Q1 hP0 hP1 hQ0 hQ1 hA hB hZ

/-- The first positions of the even groups. -/
theorem pos00 (t : Fin 640) (n : Fin 27648) : val_main_v27 (F := Ideal) x2 (ix2 t n)
    = IntOp.andi (IntOp.shrsi .host ((x2 (ix2 t n)).setWidth 32) (BitVec.ofNat 32 (4 * (0 : Fin 2).val))) 3#32 := by
  rw [val_main_v27_apply, val_main_v25_apply, val_main_v2_apply, val_main_v24_apply, val_main_c_3_apply, val_main_v26_apply, val_main_c_4_apply]
  rfl

/-- The second positions of the even groups. -/
theorem pos01 (t : Fin 640) (n : Fin 27648) : val_main_v31 (F := Ideal) x2 (ix2 t n)
    = IntOp.andi (IntOp.shrsi .host ((x2 (ix2 t n)).setWidth 32) (BitVec.ofNat 32 (4 * (0 : Fin 2).val + 2))) 3#32 := by
  rw [val_main_v31_apply, val_main_v29_apply, val_main_v2_apply, val_main_v28_apply, val_main_c_5_apply, val_main_v30_apply, val_main_c_6_apply]
  rfl

/-- The first positions of the odd groups. -/
theorem pos10 (t : Fin 640) (n : Fin 27648) : val_main_v78 (F := Ideal) x2 (ix2 t n)
    = IntOp.andi (IntOp.shrsi .host ((x2 (ix2 t n)).setWidth 32) (BitVec.ofNat 32 (4 * (1 : Fin 2).val))) 3#32 := by
  rw [val_main_v78_apply, val_main_v76_apply, val_main_v2_apply, val_main_v75_apply, val_main_c_19_apply, val_main_v77_apply, val_main_c_20_apply]
  rfl

/-- The second positions of the odd groups. -/
theorem pos11 (t : Fin 640) (n : Fin 27648) : val_main_v82 (F := Ideal) x2 (ix2 t n)
    = IntOp.andi (IntOp.shrsi .host ((x2 (ix2 t n)).setWidth 32) (BitVec.ofNat 32 (4 * (1 : Fin 2).val + 2))) 3#32 := by
  rw [val_main_v82_apply, val_main_v80_apply, val_main_v2_apply, val_main_v79_apply, val_main_c_21_apply, val_main_v81_apply, val_main_c_22_apply]
  rfl

/-- Where a slice of one half finds row `t` of 640. -/
theorem cut_row (t : Fin 640) (n : Fin 27648) : (t.val * 27648 + n.val) / 27648 = t.val := by omega
/-- Where a slice of one half finds column `n`. -/
theorem cut_col (t : Fin 640) (n : Fin 27648) : (t.val * 27648 + n.val) % 27648 = n.val := by omega

/-- The first slot's weights of the even groups. -/
theorem even0 (t : Fin 640) (n : Fin 27648) : val_main_v33 (F := Ideal) x1 x3 (ix2 t n)
    = ((((((x1 (ix2 (group 0 t) n)).setWidth 4 : BitVec 4).toNat : ℤ) - 8 : ℤ) : ℝ) : EReal) * x3 (ix2 (⟨(group 0 t).val / 32, by omega⟩ : Fin 40) n) := by
  rw [val_main_v33_apply, val_main_v32_apply]
  exact slot0_apply x1 x3 _ (group 0 t) n (by show 2 * ((t.val * 27648 + n.val) / 27648) + 0 = 2 * t.val + 0; rw [cut_row]) (cut_col t n)
/-- The second slot's weights of the even groups. -/
theorem even1 (t : Fin 640) (n : Fin 27648) : val_main_v35 (F := Ideal) x1 x3 (ix2 t n)
    = (((((((x1 (ix2 (group 0 t) n)) >>> 4).setWidth 4 : BitVec 4).toNat : ℤ) - 8 : ℤ) : ℝ) : EReal) * x3 (ix2 (⟨(group 0 t).val / 32, by omega⟩ : Fin 40) n) := by
  rw [val_main_v35_apply, val_main_v34_apply]
  exact slot1_apply x1 x3 _ (group 0 t) n (by show 2 * ((t.val * 27648 + n.val) / 27648) + 0 = 2 * t.val + 0; rw [cut_row]) (cut_col t n)
/-- The first slot's weights of the odd groups. -/
theorem odd0 (t : Fin 640) (n : Fin 27648) : val_main_v84 (F := Ideal) x1 x3 (ix2 t n)
    = ((((((x1 (ix2 (group 1 t) n)).setWidth 4 : BitVec 4).toNat : ℤ) - 8 : ℤ) : ℝ) : EReal) * x3 (ix2 (⟨(group 1 t).val / 32, by omega⟩ : Fin 40) n) := by
  rw [val_main_v84_apply, val_main_v83_apply]
  exact slot0_apply x1 x3 _ (group 1 t) n (by show 2 * ((t.val * 27648 + n.val) / 27648) + 1 = 2 * t.val + 1; rw [cut_row]) (cut_col t n)
/-- The second slot's weights of the odd groups. -/
theorem odd1 (t : Fin 640) (n : Fin 27648) : val_main_v86 (F := Ideal) x1 x3 (ix2 t n)
    = (((((((x1 (ix2 (group 1 t) n)) >>> 4).setWidth 4 : BitVec 4).toNat : ℤ) - 8 : ℤ) : ℝ) : EReal) * x3 (ix2 (⟨(group 1 t).val / 32, by omega⟩ : Fin 40) n) := by
  rw [val_main_v86_apply, val_main_v85_apply]
  exact slot1_apply x1 x3 _ (group 1 t) n (by show 2 * ((t.val * 27648 + n.val) / 27648) + 1 = 2 * t.val + 1; rw [cut_row]) (cut_col t n)

/-- Half `h`'s product at position `p`. -/
def part (h : Fin 2) (p : Fin 4) (b : Fin 2) (n : Fin 27648) : EReal :=
  ∑ t : Fin 640, inputAt x0 b (group h t) p * weightAt x1 x2 x3 (group h t) p n

/-- A sum of products is half `h`'s product at position `p` when its factors are the inputs and the weights there. -/
theorem part_of (h : Fin 2) (p : Fin 4) (b : Fin 2) (n : Fin 27648) (xs : Fin 640 → S2x1x640x2x4.Idx) (ws : Fin 640 → EReal)
    (hb : ∀ t, (xs t 0).val = b.val) (ht : ∀ t, (xs t 2).val = t.val) (hh : ∀ t, (xs t 3).val = h.val) (hp : ∀ t, (xs t 4).val = p.val)
    (hw : ∀ t, ws t = weightAt x1 x2 x3 (group h t) p n) :
    ∑ t : Fin 640, val_main_v23 (F := Ideal) x0 (xs t) * ws t = part x0 x1 x2 x3 h p b n :=
  Finset.sum_congr rfl fun t _ => congrArg₂ (fun u v : EReal => u * v)
    (input_apply x0 (xs t) b (group h t) p (hb t) (by rw [ht, hh]) (hp t)) (hw t)

/-- The batch row of the index of a slice of the activations, from row `b` and row `t` of 640. -/
theorem cut_batch (b : Fin 2) (t : Fin 640) : ((b.val * 1 + 0) * 640 + t.val) / 640 = b.val := by omega
/-- The row of 640 of that index. -/
theorem cut_group (b : Fin 2) (t : Fin 640) : ((b.val * 1 + 0) * 640 + t.val) / 1 % 640 = t.val := by omega

/-- An array at an index, from the index's two coordinates. -/
theorem at_ix2 (f : S640x27648.Idx → EReal) (i : S640x27648.Idx) (t : Fin 640) (n : Fin 27648) (h0 : (i 0).val = t.val) (h1 : (i 1).val = n.val) :
    f i = f (ix2 t n) := congrArg f (funext fun c => Fin.ext (by
  match c with
  | ⟨0, _⟩ => exact h0
  | ⟨1, _⟩ => exact h1))

/-- The product of the even groups at position 0. -/
theorem part00 (b : Fin 2) (n : Fin 27648) : val_main_v44 (F := Ideal) x0 x1 x2 x3 (ix3 b (0 : Fin 1) n) = part x0 x1 x2 x3 0 0 b n := by
  simp only [val_main_v44_apply, val_main_v43_apply, val_main_v42_apply]
  refine part_of x0 x1 x2 x3 0 0 b n _ _ (cut_batch b) (cut_group b) (fun _ => rfl) (fun _ => rfl) fun t => ?_
  rw [at_ix2 (val_main_v41 (F := Ideal) x1 x2 x3) _ t n rfl rfl, val_main_v41_apply, val_main_v40_apply, val_main_v37_apply, val_main_v39_apply]
  exact choose_weight x1 x2 x3 0 0 t n _ _ _ _ _ _ _ (pos00 x2 t n) (pos01 x2 t n)
    ((val_main_v36_apply (F := Ideal) (ix2 t n)).trans (val_main_c_7_apply (F := Ideal) _)) ((val_main_v38_apply (F := Ideal) (ix2 t n)).trans (val_main_c_8_apply (F := Ideal) _))
    (even0 x1 x3 t n) (even1 x1 x3 t n) ((val_main_call0_v0_apply (F := Ideal) (ix2 t n)).trans ((val_main_cst_9_apply (F := Ideal) _).trans zero_bf16))

/-- The product of the even groups at position 1. -/
theorem part01 (b : Fin 2) (n : Fin 27648) : val_main_v53 (F := Ideal) x0 x1 x2 x3 (ix3 b (0 : Fin 1) n) = part x0 x1 x2 x3 0 1 b n := by
  simp only [val_main_v53_apply, val_main_v52_apply, val_main_v51_apply]
  refine part_of x0 x1 x2 x3 0 1 b n _ _ (cut_batch b) (cut_group b) (fun _ => rfl) (fun _ => rfl) fun t => ?_
  rw [at_ix2 (val_main_v50 (F := Ideal) x1 x2 x3) _ t n rfl rfl, val_main_v50_apply, val_main_v49_apply, val_main_v46_apply, val_main_v48_apply]
  exact choose_weight x1 x2 x3 0 1 t n _ _ _ _ _ _ _ (pos00 x2 t n) (pos01 x2 t n)
    ((val_main_v45_apply (F := Ideal) (ix2 t n)).trans (val_main_c_10_apply (F := Ideal) _)) ((val_main_v47_apply (F := Ideal) (ix2 t n)).trans (val_main_c_11_apply (F := Ideal) _))
    (even0 x1 x3 t n) (even1 x1 x3 t n) ((val_main_call2_v0_apply (F := Ideal) (ix2 t n)).trans ((val_main_cst_12_apply (F := Ideal) _).trans zero_bf16))

/-- The product of the even groups at position 2. -/
theorem part02 (b : Fin 2) (n : Fin 27648) : val_main_v63 (F := Ideal) x0 x1 x2 x3 (ix3 b (0 : Fin 1) n) = part x0 x1 x2 x3 0 2 b n := by
  simp only [val_main_v63_apply, val_main_v62_apply, val_main_v61_apply]
  refine part_of x0 x1 x2 x3 0 2 b n _ _ (cut_batch b) (cut_group b) (fun _ => rfl) (fun _ => rfl) fun t => ?_
  rw [at_ix2 (val_main_v60 (F := Ideal) x1 x2 x3) _ t n rfl rfl, val_main_v60_apply, val_main_v59_apply, val_main_v56_apply, val_main_v58_apply]
  exact choose_weight x1 x2 x3 0 2 t n _ _ _ _ _ _ _ (pos00 x2 t n) (pos01 x2 t n)
    ((val_main_v55_apply (F := Ideal) (ix2 t n)).trans (val_main_c_13_apply (F := Ideal) _)) ((val_main_v57_apply (F := Ideal) (ix2 t n)).trans (val_main_c_14_apply (F := Ideal) _))
    (even0 x1 x3 t n) (even1 x1 x3 t n) ((val_main_call4_v0_apply (F := Ideal) (ix2 t n)).trans ((val_main_cst_15_apply (F := Ideal) _).trans zero_bf16))

/-- The product of the even groups at position 3. -/
theorem part03 (b : Fin 2) (n : Fin 27648) : val_main_v73 (F := Ideal) x0 x1 x2 x3 (ix3 b (0 : Fin 1) n) = part x0 x1 x2 x3 0 3 b n := by
  simp only [val_main_v73_apply, val_main_v72_apply, val_main_v71_apply]
  refine part_of x0 x1 x2 x3 0 3 b n _ _ (cut_batch b) (cut_group b) (fun _ => rfl) (fun _ => rfl) fun t => ?_
  rw [at_ix2 (val_main_v70 (F := Ideal) x1 x2 x3) _ t n rfl rfl, val_main_v70_apply, val_main_v69_apply, val_main_v66_apply, val_main_v68_apply]
  exact choose_weight x1 x2 x3 0 3 t n _ _ _ _ _ _ _ (pos00 x2 t n) (pos01 x2 t n)
    ((val_main_v65_apply (F := Ideal) (ix2 t n)).trans (val_main_c_16_apply (F := Ideal) _)) ((val_main_v67_apply (F := Ideal) (ix2 t n)).trans (val_main_c_17_apply (F := Ideal) _))
    (even0 x1 x3 t n) (even1 x1 x3 t n) ((val_main_call6_v0_apply (F := Ideal) (ix2 t n)).trans ((val_main_cst_18_apply (F := Ideal) _).trans zero_bf16))

/-- The product of the odd groups at position 0. -/
theorem part10 (b : Fin 2) (n : Fin 27648) : val_main_v95 (F := Ideal) x0 x1 x2 x3 (ix3 b (0 : Fin 1) n) = part x0 x1 x2 x3 1 0 b n := by
  simp only [val_main_v95_apply, val_main_v94_apply, val_main_v93_apply]
  refine part_of x0 x1 x2 x3 1 0 b n _ _ (cut_batch b) (cut_group b) (fun _ => rfl) (fun _ => rfl) fun t => ?_
  rw [at_ix2 (val_main_v92 (F := Ideal) x1 x2 x3) _ t n rfl rfl, val_main_v92_apply, val_main_v91_apply, val_main_v88_apply, val_main_v90_apply]
  exact choose_weight x1 x2 x3 1 0 t n _ _ _ _ _ _ _ (pos10 x2 t n) (pos11 x2 t n)
    ((val_main_v87_apply (F := Ideal) (ix2 t n)).trans (val_main_c_23_apply (F := Ideal) _)) ((val_main_v89_apply (F := Ideal) (ix2 t n)).trans (val_main_c_24_apply (F := Ideal) _))
    (odd0 x1 x3 t n) (odd1 x1 x3 t n) ((val_main_call8_v0_apply (F := Ideal) (ix2 t n)).trans ((val_main_cst_25_apply (F := Ideal) _).trans zero_bf16))

/-- The product of the odd groups at position 1. -/
theorem part11 (b : Fin 2) (n : Fin 27648) : val_main_v105 (F := Ideal) x0 x1 x2 x3 (ix3 b (0 : Fin 1) n) = part x0 x1 x2 x3 1 1 b n := by
  simp only [val_main_v105_apply, val_main_v104_apply, val_main_v103_apply]
  refine part_of x0 x1 x2 x3 1 1 b n _ _ (cut_batch b) (cut_group b) (fun _ => rfl) (fun _ => rfl) fun t => ?_
  rw [at_ix2 (val_main_v102 (F := Ideal) x1 x2 x3) _ t n rfl rfl, val_main_v102_apply, val_main_v101_apply, val_main_v98_apply, val_main_v100_apply]
  exact choose_weight x1 x2 x3 1 1 t n _ _ _ _ _ _ _ (pos10 x2 t n) (pos11 x2 t n)
    ((val_main_v97_apply (F := Ideal) (ix2 t n)).trans (val_main_c_26_apply (F := Ideal) _)) ((val_main_v99_apply (F := Ideal) (ix2 t n)).trans (val_main_c_27_apply (F := Ideal) _))
    (odd0 x1 x3 t n) (odd1 x1 x3 t n) ((val_main_call10_v0_apply (F := Ideal) (ix2 t n)).trans ((val_main_cst_28_apply (F := Ideal) _).trans zero_bf16))

/-- The product of the odd groups at position 2. -/
theorem part12 (b : Fin 2) (n : Fin 27648) : val_main_v115 (F := Ideal) x0 x1 x2 x3 (ix3 b (0 : Fin 1) n) = part x0 x1 x2 x3 1 2 b n := by
  simp only [val_main_v115_apply, val_main_v114_apply, val_main_v113_apply]
  refine part_of x0 x1 x2 x3 1 2 b n _ _ (cut_batch b) (cut_group b) (fun _ => rfl) (fun _ => rfl) fun t => ?_
  rw [at_ix2 (val_main_v112 (F := Ideal) x1 x2 x3) _ t n rfl rfl, val_main_v112_apply, val_main_v111_apply, val_main_v108_apply, val_main_v110_apply]
  exact choose_weight x1 x2 x3 1 2 t n _ _ _ _ _ _ _ (pos10 x2 t n) (pos11 x2 t n)
    ((val_main_v107_apply (F := Ideal) (ix2 t n)).trans (val_main_c_29_apply (F := Ideal) _)) ((val_main_v109_apply (F := Ideal) (ix2 t n)).trans (val_main_c_30_apply (F := Ideal) _))
    (odd0 x1 x3 t n) (odd1 x1 x3 t n) ((val_main_call12_v0_apply (F := Ideal) (ix2 t n)).trans ((val_main_cst_31_apply (F := Ideal) _).trans zero_bf16))

/-- The product of the odd groups at position 3. -/
theorem part13 (b : Fin 2) (n : Fin 27648) : val_main_v125 (F := Ideal) x0 x1 x2 x3 (ix3 b (0 : Fin 1) n) = part x0 x1 x2 x3 1 3 b n := by
  simp only [val_main_v125_apply, val_main_v124_apply, val_main_v123_apply]
  refine part_of x0 x1 x2 x3 1 3 b n _ _ (cut_batch b) (cut_group b) (fun _ => rfl) (fun _ => rfl) fun t => ?_
  rw [at_ix2 (val_main_v122 (F := Ideal) x1 x2 x3) _ t n rfl rfl, val_main_v122_apply, val_main_v121_apply, val_main_v118_apply, val_main_v120_apply]
  exact choose_weight x1 x2 x3 1 3 t n _ _ _ _ _ _ _ (pos10 x2 t n) (pos11 x2 t n)
    ((val_main_v117_apply (F := Ideal) (ix2 t n)).trans (val_main_c_32_apply (F := Ideal) _)) ((val_main_v119_apply (F := Ideal) (ix2 t n)).trans (val_main_c_33_apply (F := Ideal) _))
    (odd0 x1 x3 t n) (odd1 x1 x3 t n) ((val_main_call14_v0_apply (F := Ideal) (ix2 t n)).trans ((val_main_cst_34_apply (F := Ideal) _).trans zero_bf16))

/-- The reference's result is the sum of every input times its weight. -/
theorem result_apply (b : Fin 2) (n : Fin 27648) :
    val_main_v128 (F := Ideal) x0 x1 x2 x3 (ix2 b n) = total x0 x1 x2 x3 b n := by
  have hi : idx_main_v128 (ix2 b n) = ix3 b (0 : Fin 1) n := funext fun c => Fin.ext (by
    match c with
    | ⟨0, _⟩ => show (b.val * 27648 + n.val) / 27648 = b.val; omega
    | ⟨1, _⟩ => rfl
    | ⟨2, _⟩ => show (b.val * 27648 + n.val) % 27648 = n.val; omega)
  rw [val_main_v128_apply, hi, val_main_v127_apply, val_main_v126_apply, val_main_v116_apply, val_main_v106_apply, val_main_v96_apply,
    val_main_v74_apply, val_main_v64_apply, val_main_v54_apply, part00, part01, part02, part03, part10, part11, part12, part13, total_halves]
  simp only [Fin.sum_univ_two, Fin.sum_univ_four]
  show (((((((_ : EReal) + _) + _) + _) + _) + _) + _) + _ = _
  simp only [part, add_assoc]

end Cert.ReferenceIdeal.At

end
-- ==== Proof.Slots.lean ====
/- What the precondition says: the two positions of every group of four inputs come in order. -/
module

public import proofs.«01_k».proof.Pre_slots_ordered
public import proofs.«01_k».proof.Proof.Spec

@[expose] public section

noncomputable section

namespace Cert.Slots

open Idealize.ShloMosaic Cert.Bits Cert.Spec
open Idealize.ShloMosaic.ValueIdx (ix2)

/-- The precondition at one byte of positions, as its program computes it. -/
def byteTest (w : BitVec 8) : BitVec 1 :=
  BitVec.ofBool ((w.setWidth 32 &&& 3#32).slt ((w.setWidth 32).sshiftRight 2 &&& 3#32))
    &&& BitVec.ofBool (((w.setWidth 32).sshiftRight 4 &&& 3#32).slt ((w.setWidth 32).sshiftRight 6 &&& 3#32))

/-- A byte that passes has both its pairs of positions in order. -/
theorem byteTest_ordered : ∀ w : BitVec 8, byteTest w = 1#1 → ∀ e : Fin 2, Ordered (posHalf w e.val) := by decide +kernel

/-- Positions that pass the precondition are all in order. -/
theorem ordered [Cert.Pre_slots_ordered.Facts] (x : Inputs) (v : Codes) (q : Positions) (s : Scales)
    (h : Cert.Pre_slots_ordered.fn (F := Ideal) x v q s = fun _ => 1#1) (t : Fin 640) (n : Fin 27648) (e : Fin 2) :
    Ordered (posHalf (q (ix2 t n)) e.val) :=
  byteTest_ordered _ (congrFun h (ix2 t n)) e

end Cert.Slots

end

end
-- ==== Proof.lean ====
/- The claims about the sparse matrix product, put together.

   Each program runs to its end and leaves its arguments as they were. The kernel's reading over the extended reals
   comes from the kernel by the listed rewrites. Over the extended reals the kernel and the reference leave the same
   array: at row `b` and column `n`, the sum of every input times its weight (`Cert.Spec.total`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_slots_ordered
public import proofs.«01_k».proof.Proof.Arrays
public import proofs.«01_k».proof.Proof.RefAt
public import proofs.«01_k».proof.Proof.Slots
public import Idealize.ShloMosaic.Adequacy
public import Idealize.ShloMosaic.Init
public import Idealize.ShloMosaic.Lib.Bf16Pair
public import Idealize.ShloMosaic.Lib.Bf16PairInverse
public import Idealize.ShloMosaic.Lib.Quiescent

@[expose] public section

noncomputable section

namespace Cert.Proof

open Idealize.ShloMosaic Idealize.SL.Sem Cert.Kernel

/-- Every rewrite between the kernel and its reading over the extended reals is an instance of its rule. -/
theorem preserves : Cert.preserves_Kernel_KernelIdeal :=
  ⟨IdealRules.bf16_pair.bufferStatement _ _, IdealRules.bf16_pair.statement _ _, IdealRules.bf16_pair.statement _ _,
   IdealRules.bf16_pair.statement _ _, IdealRules.bf16_pair.statement _ _⟩

/-- The reference terminates, leaves its arguments as they were, and has no semaphore to leave away from zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's result at every row and column: every input times its weight, added up. -/
theorem reference_result (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v128 m c = fun j =>
      Cert.Spec.total (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)) (j 0) (j 1) := by
  refine (Cert.ReferenceIdeal.Read.val_main_v128_eq m c).trans (funext fun j => ?_)
  have hj : j = ValueIdx.ix2 (j 0) (j 1) := funext fun a => by
    match a with
    | ⟨0, _⟩ => rfl
    | ⟨1, _⟩ => rfl
  rw [hj]
  exact Cert.ReferenceIdeal.At.result_apply _ _ _ _ (j 0) (j 1)

/-- From the same arguments, with every group's positions in order, the kernel and the reference leave equal results. -/
theorem algebraic : Cert.algebraic_KernelIdeal_ReferenceIdeal_pre_slots_ordered := by
  intro m g m' g' hpre hagree
  refine ⟨fun c => Cert.KernelIdeal.Arrays.results m c, ?_, ?_⟩
  · refine (θ_run Cert.KernelIdeal.defs _ _).mono (fun r h c => ⟨(h c).1.trans ?_, (h c).2⟩)
      (Cert.KernelIdeal.Value.run_blocks (F := Ideal) m g)
    exact Cert.KernelIdeal.Arrays.arr_eq m c (Cert.Slots.ordered _ _ _ _ (hpre c))
  · refine (θ_run Cert.ReferenceIdeal.defs _ _).mono (fun r h c => ⟨(h c).1.trans ?_, (h c).2⟩)
      (Cert.ReferenceIdeal.Value.run (F := Ideal) m' g')
    obtain ⟨h0, h1, h2, h3⟩ := hagree c
    rw [reference_result, h0, h1, h2, h3]
    rfl

/-- Everything the certificate claims. -/
theorem claim : Cert.Claim :=
  ⟨Cert.Kernel.Gen.facts, Cert.KernelIdeal.Gen.facts, Cert.ReferenceIdeal.Gen.facts, Cert.Pre_slots_ordered.Gen.facts,
   fun m g _ => Cert.Kernel.Gen.frame m g,
   fun m g _ => Cert.KernelIdeal.Gen.frame m g,
   fun m g _ => Cert.KernelIdeal.Gen.frame m g,
   reference_frame,
   fun m g _ => reference_frame m g trivial,
   preserves, algebraic⟩

end Cert.Proof

end
